-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4x128x512 : Shape := ⟨3, ![4, 128, 512]⟩
abbrev S4 : Shape := ⟨1, ![4]⟩
abbrev S2 : Shape := ⟨1, ![2]⟩
abbrev S_ : Shape := ⟨0, ![]⟩
abbrev S128x512 : Shape := ⟨2, ![128, 512]⟩
abbrev S1x128x512 : Shape := ⟨3, ![1, 128, 512]⟩
abbrev S1 : Shape := ⟨1, ![1]⟩
abbrev S2x128x512 : Shape := ⟨3, ![2, 128, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S4x128x512, .bf16⟩
  | .local _ .vmem, ⟨3, _⟩ => ⟨S4x128x512, .bf16⟩
  | .local _ .vmem, ⟨4, _⟩ => ⟨S4x128x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_29 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_28 : BitVec 32 := 8#32
  let v46 : BitVec 32 := Scalar.muli v9 c8_i32_28
  let v47 : BitVec 32 := Scalar.addi c0_i32_29 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v48 : BitVec 32 := Scalar.muli v5 c4_i32_30
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v50 : BitVec 32 := Scalar.muli v8 c1_i32_31
  let v51 : BitVec 32 := Scalar.addi v49 v50
  v51.toNat
def k0_dev2 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v52 : BitVec 32 := Scalar.muli v2 c8_i32_33
  let v53 : BitVec 32 := Scalar.addi c0_i32_34 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_35 : BitVec 32 := 4#32
  let v54 : BitVec 32 := Scalar.muli v25 c4_i32_35
  let v55 : BitVec 32 := Scalar.addi v53 v54
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_36 : BitVec 32 := 1#32
  let v56 : BitVec 32 := Scalar.muli v28 c1_i32_36
  let v57 : BitVec 32 := Scalar.addi v55 v56
  v57.toNat
def k0_dev3 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v58 : BitVec 32 := Scalar.muli v2 c8_i32_38
  let v59 : BitVec 32 := Scalar.addi c0_i32_39 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c7_i32_15 : BitVec 32 := 7#32
  let v29 : BitVec 32 := Scalar.addi v12 c7_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_40 : BitVec 32 := 4#32
  let v60 : BitVec 32 := Scalar.muli v41 c4_i32_40
  let v61 : BitVec 32 := Scalar.addi v59 v60
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_41 : BitVec 32 := 1#32
  let v62 : BitVec 32 := Scalar.muli v44 c1_i32_41
  let v63 : BitVec 32 := Scalar.addi v61 v62
  v63.toNat
def k0_off1 (d0 : Dev nD) (c2_i32_42 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v64 : BitVec 32 := Scalar.addi v12 c2_i32_42
  let c8_i32_43 : BitVec 32 := 8#32
  let c0_i32_44 : BitVec 32 := 0#32
  let v65 : BitVec 1 := Scalar.cmpi .eq c8_i32_43 c0_i32_44
  let c1_i32_45 : BitVec 32 := 1#32
  let v66 : BitVec 32 := Scalar.select v65 c1_i32_45 c8_i32_43
  let v67 : BitVec 32 := Scalar.remsi v64 v66
  let c0_i32_47 : BitVec 32 := 0#32
  let v69 : BitVec 1 := Scalar.cmpi .slt v67 c0_i32_47
  let c0_i32_48 : BitVec 32 := 0#32
  let v70 : BitVec 1 := Scalar.cmpi .slt v66 c0_i32_48
  let v71 : BitVec 1 := Scalar.xori v69 v70
  let c0_i32_46 : BitVec 32 := 0#32
  let v68 : BitVec 1 := Scalar.cmpi .ne v67 c0_i32_46
  let v72 : BitVec 1 := Scalar.andi v71 v68
  let v73 : BitVec 32 := Scalar.addi v67 v66
  let v74 : BitVec 32 := Scalar.select v72 v73 v67
  let c128_i32 : BitVec 32 := 128#32
  let v75 : BitVec 32 := Scalar.muli v74 c128_i32
  let v76 : Index := Scalar.indexCast v75
  let c0 : Index := 0#32
  ![v76.toNat, 0]
def k0_dev4 (d0 : Dev nD) : Nat :=
  let c0_i32_57 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_56 : BitVec 32 := 8#32
  let v83 : BitVec 32 := Scalar.muli v9 c8_i32_56
  let v84 : BitVec 32 := Scalar.addi c0_i32_57 v83
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_58 : BitVec 32 := 4#32
  let v85 : BitVec 32 := Scalar.muli v5 c4_i32_58
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v87 : BitVec 32 := Scalar.muli v8 c1_i32_59
  let v88 : BitVec 32 := Scalar.addi v86 v87
  v88.toNat
def k0_dev5 (d0 : Dev nD) : Nat :=
  let c0_i32_79 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_78 : BitVec 32 := 8#32
  let v116 : BitVec 32 := Scalar.muli v9 c8_i32_78
  let v117 : BitVec 32 := Scalar.addi c0_i32_79 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v118 : BitVec 32 := Scalar.muli v5 c4_i32_80
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v120 : BitVec 32 := Scalar.muli v8 c1_i32_81
  let v121 : BitVec 32 := Scalar.addi v119 v120
  v121.toNat
def k0_dev6 (d0 : Dev nD) : Nat :=
  let c0_i32_111 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_110 : BitVec 32 := 8#32
  let v168 : BitVec 32 := Scalar.muli v9 c8_i32_110
  let v169 : BitVec 32 := Scalar.addi c0_i32_111 v168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_112 : BitVec 32 := 4#32
  let v170 : BitVec 32 := Scalar.muli v5 c4_i32_112
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v172 : BitVec 32 := Scalar.muli v8 c1_i32_113
  let v173 : BitVec 32 := Scalar.addi v171 v172
  v173.toNat
def k0_dev7 (d0 : Dev nD) : Nat :=
  let c0_i32_145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_144 : BitVec 32 := 8#32
  let v204 : BitVec 32 := Scalar.muli v2 c8_i32_144
  let v205 : BitVec 32 := Scalar.addi c0_i32_145 v204
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_146 : BitVec 32 := 4#32
  let v206 : BitVec 32 := Scalar.muli v25 c4_i32_146
  let v207 : BitVec 32 := Scalar.addi v205 v206
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_147 : BitVec 32 := 1#32
  let v208 : BitVec 32 := Scalar.muli v28 c1_i32_147
  let v209 : BitVec 32 := Scalar.addi v207 v208
  v209.toNat
def k0_dev8 (d0 : Dev nD) : Nat :=
  let c0_i32_157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_156 : BitVec 32 := 8#32
  let v218 : BitVec 32 := Scalar.muli v2 c8_i32_156
  let v219 : BitVec 32 := Scalar.addi c0_i32_157 v218
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c7_i32_15 : BitVec 32 := 7#32
  let v29 : BitVec 32 := Scalar.addi v12 c7_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_158 : BitVec 32 := 4#32
  let v220 : BitVec 32 := Scalar.muli v41 c4_i32_158
  let v221 : BitVec 32 := Scalar.addi v219 v220
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_159 : BitVec 32 := 1#32
  let v222 : BitVec 32 := Scalar.muli v44 c1_i32_159
  let v223 : BitVec 32 := Scalar.addi v221 v222
  v223.toNat
def k0_dev9 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_193 : BitVec 32 := 8#32
  let v265 : BitVec 32 := Scalar.muli v2 c8_i32_193
  let v266 : BitVec 32 := Scalar.addi c0_i32_194 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_195 : BitVec 32 := 4#32
  let v267 : BitVec 32 := Scalar.muli v25 c4_i32_195
  let v268 : BitVec 32 := Scalar.addi v266 v267
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_196 : BitVec 32 := 1#32
  let v269 : BitVec 32 := Scalar.muli v28 c1_i32_196
  let v270 : BitVec 32 := Scalar.addi v268 v269
  v270.toNat
def k0_dev10 (d0 : Dev nD) : Nat :=
  let c0_i32_206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_205 : BitVec 32 := 8#32
  let v279 : BitVec 32 := Scalar.muli v2 c8_i32_205
  let v280 : BitVec 32 := Scalar.addi c0_i32_206 v279
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c7_i32_15 : BitVec 32 := 7#32
  let v29 : BitVec 32 := Scalar.addi v12 c7_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_207 : BitVec 32 := 4#32
  let v281 : BitVec 32 := Scalar.muli v41 c4_i32_207
  let v282 : BitVec 32 := Scalar.addi v280 v281
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_208 : BitVec 32 := 1#32
  let v283 : BitVec 32 := Scalar.muli v44 c1_i32_208
  let v284 : BitVec 32 := Scalar.addi v282 v283
  v284.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
# The mesh and the transfers

The sixteen devices of the 2 × 2 × 4 mesh, the three peers a device exchanges blocks with, and the seven
transfers it issues: where each goes and which semaphores it completes on.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe

/-! ## The devices -/

set_option backward.proofsInPublic true in
/-- The device with the same y and z and the other x. -/
def ptn (c : Dev nD) : Dev nD := ⟨(c.val + 8) % 16, Nat.mod_lt _ (by decide)⟩

/-- A device's place on the ring of eight that the y and z axes make: out along y = 0, back along y = 1. -/
def pos (c : Dev nD) : ℕ := if c.val / 4 % 2 = 0 then c.val % 4 else 7 - c.val % 4

set_option backward.proofsInPublic true in
/-- The device of place `r` (modulo eight) on the ring of the devices sharing `c`'s x. -/
def onRing (c : Dev nD) (r : ℕ) : Dev nD :=
  ⟨(8 * (c.val / 8) + (if r % 8 < 4 then r % 8 else 4 + (7 - r % 8))) % 16, Nat.mod_lt _ (by decide)⟩

/-- The next device round the ring. -/
def nxt (c : Dev nD) : Dev nD := onRing c (pos c + 1)
/-- The device before it. -/
def prv (c : Dev nD) : Dev nD := onRing c (pos c + 7)

theorem ptn_ptn (c : Dev nD) : ptn (ptn c) = c := by revert c; decide +kernel
theorem prv_nxt (c : Dev nD) : prv (nxt c) = c := by revert c; decide +kernel
theorem nxt_prv (c : Dev nD) : nxt (prv c) = c := by revert c; decide +kernel

/-- Each device identifier the kernel computes is one of the three peers. -/
theorem dev1_eq : ∀ c : Dev nD, (⟨k0_dev1 c, k0_dev1_lt c⟩ : Dev nD) = ptn c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = prv c := by decide +kernel
theorem dev4_eq : ∀ c : Dev nD, (⟨k0_dev4 c, k0_dev4_lt c⟩ : Dev nD) = ptn c := by decide +kernel
theorem dev5_eq : ∀ c : Dev nD, (⟨k0_dev5 c, k0_dev5_lt c⟩ : Dev nD) = ptn c := by decide +kernel
theorem dev6_eq : ∀ c : Dev nD, (⟨k0_dev6 c, k0_dev6_lt c⟩ : Dev nD) = ptn c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = prv c := by decide +kernel

/-- Exchanging with the partner, and going one step round the ring either way, permute the devices. -/
def ptnE : Dev nD ≃ Dev nD := ⟨ptn, ptn, ptn_ptn, ptn_ptn⟩
def nxtE : Dev nD ≃ Dev nD := ⟨nxt, prv, prv_nxt, nxt_prv⟩

/-! ## The chunks

A device cuts the 1024 rows into eight chunks of 128 rows; chunk `s` starts `(pos c + s) mod 8` chunks down. -/

/-- The rectangle of chunk `s` of device `c`. -/
abbrev chunkR (c : Dev nD) (s : Fin 8) : Rect S1024x512 :=
  Rect.unit (s := S1024x512) (k0_off1 c (BitVec.ofNat 32 s.val)) S128x512.size (k0_off1_inb c s)

/-- Where chunk `s` starts. -/
theorem off_eq : ∀ (c : Dev nD) (s : Fin 8), k0_off1 c (BitVec.ofNat 32 s.val) = ![128 * ((pos c + s.val) % 8), 0] := by
  decide +kernel

/-- The chunk the row `i` of device `c` lies in. -/
def chunkOf (c : Dev nD) (i : S1024x512.Idx) : ℕ := ((i 0).val / 128 + 8 - pos c) % 8

/-- The device whose rows come to chunk `s` of device `c`: its partner for the four chunks the partner sends
    straight, the partner of a ring neighbour for the four a neighbour passes on. -/
def srcOf (c : Dev nD) (s : ℕ) : Dev nD :=
  if s = 1 ∨ s = 4 then ptn (prv c) else if s = 3 ∨ s = 6 then ptn (nxt c) else ptn c

/-- The chunk that slot `i` of the send buffer carries: 2, 5, 0, 7. -/
def slotChunk : Fin 4 → Fin 8 := ![2, 5, 0, 7]

/-! ## The transfers -/

/-- The device transfer `t` of device `c` goes to: the partner for the first three, then next, before, next, before. -/
def tgtE (t : Fin 7) : Dev nD ≃ Dev nD := if t.val < 3 then ptnE else if t.val % 2 = 1 then nxtE else nxtE.symm
abbrev tgt (t : Fin 7) (c : Dev nD) : Dev nD := tgtE t c
/-- The device transfer `t` comes from. -/
abbrev frm (t : Fin 7) (c : Dev nD) : Dev nD := (tgtE t).symm c

/-- The semaphore transfer `t` completes on at the sender. -/
def sSem : Fin 7 → DmaSem sig := ![2, 3, 4, 10, 14, 11, 15]
/-- The semaphore transfer `t` completes on at the receiver. -/
def rSem : Fin 7 → DmaSem sig := ![6, 7, 8, 12, 16, 13, 17]

/-- The device the `d`-th signal of device `c` goes to. -/
def sigE (d : Fin 3) : Dev nD ≃ Dev nD := if d = 0 then ptnE else if d = 1 then nxtE else nxtE.symm
abbrev sigTo (d : Fin 3) (c : Dev nD) : Dev nD := sigE d c

/-- The barrier semaphore. -/
abbrev barS : Sem sig := (SemArray.scalar (sig.barrier 0 rfl) : Sems sig S_).sem

/-! ## The buffers -/

/-- The staged block, the staged result, the send buffer, the buffer the partner fills, the buffer the ring
    neighbours fill. -/
abbrev xM : Memref sig .tc .vmem S1024x512 .f32 := Memref.whole cc0_stg0_0
abbrev oM : Memref sig .tc .vmem S1024x512 .f32 := Memref.whole cc0_stg1_0
abbrev xcM : Memref sig .tc .vmem S4x128x512 .bf16 := Memref.whole cc0_scratch0
abbrev p1M : Memref sig .tc .vmem S4x128x512 .bf16 := Memref.whole cc0_scratch1
abbrev rrM : Memref sig .tc .vmem S4x128x512 .bf16 := Memref.whole cc0_scratch2

theorem slot_inb (i : Fin 4) : ∀ a, (![i.val, 0, 0] : Fin 3 → ℕ) a + S1x128x512.size a ≤ S4x128x512.size a := by
  revert i; decide
theorem pair_inb : ∀ a, (![2, 0, 0] : Fin 3 → ℕ) a + S2x128x512.size a ≤ S4x128x512.size a := by decide

/-- Slot `i` of a four-slot buffer, and its last two slots together. -/
abbrev slotR (i : Fin 4) : Rect S4x128x512 := Rect.unit (s := S4x128x512) ![i.val, 0, 0] S1x128x512.size (slot_inb i)
abbrev pairR : Rect S4x128x512 := Rect.unit (s := S4x128x512) ![2, 0, 0] S2x128x512.size pair_inb

/-- The two as memrefs the transfers name. -/
abbrev slotM (b : Memref sig .tc .vmem S4x128x512 .bf16) (i : Fin 4) : Memref sig .tc .vmem S128x512 .bf16 :=
  (b.slice (slotR i) (fun _ => rfl)).squeeze S128x512 squeezes_S1x128x512_S128x512
abbrev pairM (b : Memref sig .tc .vmem S4x128x512 .bf16) : Memref sig .tc .vmem S2x128x512 .bf16 :=
  b.slice pairR (fun _ => rfl)

/-- The credit of a transfer of one slot and of two. -/
abbrev N1 : ℕ := (slotM p1M 0).view.dmaCredit
abbrev N2 : ℕ := (pairM p1M).view.dmaCredit
theorem N1_pos : 0 < N1 := View.dmaCredit_pos _ (by decide)
theorem N2_pos : 0 < N2 := View.dmaCredit_pos _ (by decide)

theorem credit_p1 (i : Fin 4) : (slotM p1M i).view.dmaCredit = N1 := rfl
theorem credit_rr (i : Fin 4) : (slotM rrM i).view.dmaCredit = N1 := rfl
theorem credit_xc (i : Fin 4) : (slotM xcM i).view.dmaCredit = N1 := rfl
theorem credit_xc2 : (pairM xcM).view.dmaCredit = N2 := rfl

/-- An index lies in slot `i` when its first coordinate is `i`, and in the last two slots when it is at least two. -/
theorem mem_slot (i : Fin 4) (x : S4x128x512.Idx) : x ∈ (slotR i).set ↔ (x 0).val = i.val := by
  rw [Rect.mem_set_unit]
  constructor
  · intro h
    have h0 := h 0
    change i.val ≤ (x 0).val ∧ (x 0).val < i.val + 1 at h0
    omega
  · intro h a
    match a with
    | ⟨0, _⟩ => show i.val ≤ (x 0).val ∧ (x 0).val < i.val + 1; omega
    | ⟨1, _⟩ => exact ⟨Nat.zero_le _, lt_of_lt_of_eq (x 1).isLt (Nat.zero_add _).symm⟩
    | ⟨2, _⟩ => exact ⟨Nat.zero_le _, lt_of_lt_of_eq (x 2).isLt (Nat.zero_add _).symm⟩
theorem mem_pair (x : S4x128x512.Idx) : x ∈ pairR.set ↔ 2 ≤ (x 0).val := by
  rw [Rect.mem_set_unit]
  constructor
  · exact fun h => (h 0).1
  · intro h a
    match a with
    | ⟨0, _⟩ => exact ⟨h, (x 0).isLt⟩
    | ⟨1, _⟩ => exact ⟨Nat.zero_le _, lt_of_lt_of_eq (x 1).isLt (Nat.zero_add _).symm⟩
    | ⟨2, _⟩ => exact ⟨Nat.zero_le _, lt_of_lt_of_eq (x 2).isLt (Nat.zero_add _).symm⟩

end Cert.Exchange

end
-- ==== Proof.Contents.lean ====
/-
# What the buffers hold

From the block `X d` staged on each device `d`: what each device's send buffer holds once filled, what lands in
the two receive buffers, and the result. Each store's and each transfer's effect is stated against these.
-/
module

public import proofs.«01_k».proof.Proof.Mesh
public import Idealize.ShloMosaic.Lib.Pipeline.Value

@[expose] public section

noncomputable section

namespace Cert.Exchange

open Cert.KernelIdeal Cert.KernelIdeal.Gen
open Idealize.ShloMosaic
open Idealize.ShloMosaic.TcCoe

variable {F : FTy → Type} [FloatOps F] (X : Dev nD → FVec F S1024x512 .f32)

/-- The coordinates inside a slot. -/
def inSlot (x : S4x128x512.Idx) : S128x512.Idx := fun a => x a.succ

/-- A device's block rounded to the width the transfers carry. -/
def narrow (c : Dev nD) : FVec F S1024x512 .bf16 := truncf .bf16 (X c) bitsLt_bf16_f32

/-- Device `c`'s send buffer once filled: slot `i` holds chunk `slotChunk i`, rounded. -/
def sent (c : Dev nD) : FVec F S4x128x512 .bf16 := fun x => narrow X c ((chunkR c (slotChunk (x 0))).emb (inSlot x))

/-- What the partner's transfers leave in `c`'s first receive buffer. -/
def gotP (c : Dev nD) : FVec F S4x128x512 .bf16 := sent X (ptn c)

/-- What the ring neighbours' transfers leave in `c`'s second receive buffer: the first two slots of the device
    before, then the first two of the next. -/
def gotR (c : Dev nD) : FVec F S4x128x512 .bf16 := fun x =>
  if h : (x 0).val < 2 then gotP X (prv c) x
  else gotP X (nxt c) (Fin.cons ⟨(x 0).val - 2, by have := (x 0).isLt; omega⟩ (inSlot x))

/-- Device `c`'s result: each row of its block plus the same row of the device that row comes from, widened. -/
def result (c : Dev nD) : FVec F S1024x512 .f32 := fun i =>
  addf (X c) (extf .f32 (narrow X (srcOf c (chunkOf c i))) bitsLt_bf16_f32) i

/-! ## Stores into the send buffer -/

/-- Rounding a chunk and laying it out as one slot. -/
theorem pay_apply (v : FVec F S128x512 .f32) (z : S1x128x512.Idx) :
    k0_pay1 v z = truncf .bf16 v bitsLt_bf16_f32 (fun a => z a.succ) := by
  unfold k0_pay1
  rw [shapeCast_self]
  exact shapeCast_addUnit_apply ![128, 512] _ _ z
theorem pay2_eq (v : FVec F S128x512 .f32) : k0_pay2 v = k0_pay1 v := rfl
theorem pay3_eq (v : FVec F S128x512 .f32) : k0_pay3 v = k0_pay1 v := rfl
theorem pay4_eq (v : FVec F S128x512 .f32) : k0_pay4 v = k0_pay1 v := rfl

/-- Where slot `i`'s index `z` lies: first coordinate `i`, the others those of `z`. -/
theorem slot_emb_zero (i : Fin 4) (z : S1x128x512.Idx) : (slotR i).emb z 0 = i := by
  apply Fin.ext
  have := (z 0).isLt
  change (z 0).val < 1 at this
  show i.val + 1 * (z 0).val = i.val
  omega
theorem slot_emb_succ (i : Fin 4) (z : S1x128x512.Idx) :
    inSlot ((slotR i).emb z) = (fun a => z a.succ : S128x512.Idx) := by
  funext a
  apply Fin.ext
  match a with
  | ⟨0, _⟩ => show 0 + 1 * (z 1).val = (z 1).val; omega
  | ⟨1, _⟩ => show 0 + 1 * (z 2).val = (z 2).val; omega

/-- An index of a rectangle is one of the rectangle's own. -/
theorem rect_surj {s : Shape} (r : Rect s) {x : s.Idx} (h : x ∈ r.set) : ∃ z, r.emb z = x := by
  rw [← Rect.map_emb_univ] at h
  obtain ⟨z, -, hz⟩ := Finset.mem_map.mp h
  exact ⟨z, hz⟩

/-- The store of chunk `slotChunk i` into slot `i` leaves the slot as `sent` says, whatever the buffer held. -/
theorem store_slot (c : Dev nD) (i : Fin 4) (f : FVec F S4x128x512 .bf16) {x : S4x128x512.Idx} (h : x ∈ (slotR i).set) :
    (xcM.access (slotR i)).write (Elt F) f (k0_pay1 (xM.view.readAt (Elt F) (chunkR c (slotChunk i)).toLoadRect (X c))) Finset.univ x
      = sent X c x := by
  obtain ⟨z, rfl⟩ := rect_surj _ h
  refine (View.write_emb_of_mem (v := xcM.access (slotR i)) (Val := Elt F) f _ (x := z) (Finset.mem_univ z)).trans ?_
  show k0_pay1 _ z = _
  rw [pay_apply]
  unfold sent
  rw [slot_emb_zero, slot_emb_succ]
  rfl

/-- A store into slot `i` leaves the other slots. -/
theorem store_other (i : Fin 4) (f : FVec F S4x128x512 .bf16) (w : FVec F S1x128x512 .bf16) {x : S4x128x512.Idx}
    (h : x ∉ (slotR i).set) : (xcM.access (slotR i)).write (Elt F) f w Finset.univ x = f x :=
  View.write_of_not_mem (v := xcM.access (slotR i)) (Val := Elt F) f w _ (by
    rw [View.setOn_univ, show (xcM.access (slotR i)).set = (slotR i).set from View.set_slice_whole _ _]; exact h)

/-- The stores into the last two slots leave the two as `sent` says. -/
theorem store_pair (c : Dev nD) (f : FVec F S4x128x512 .bf16) {x : S4x128x512.Idx} (h : x ∈ pairR.set) :
    (xcM.access (slotR 3)).write (Elt F)
      ((xcM.access (slotR 2)).write (Elt F) f (k0_pay3 (xM.view.readAt (Elt F) (chunkR c 0).toLoadRect (X c))) Finset.univ)
      (k0_pay4 (xM.view.readAt (Elt F) (chunkR c 7).toLoadRect (X c))) Finset.univ x = sent X c x := by
  rw [pay3_eq, pay4_eq]
  by_cases h3 : x ∈ (slotR 3).set
  · exact store_slot X c 3 _ h3
  · rw [store_other 3 _ _ h3]
    refine store_slot X c 2 f ?_
    rw [mem_pair] at h
    rw [mem_slot] at h3 ⊢
    have := (x 0).isLt
    change (x 0).val < 4 at this
    change ¬ (x 0).val = 3 at h3
    show (x 0).val = 2
    omega

/-! ## Transfers -/

/-- A transfer that reads what the destination is to hold leaves the destination holding it. -/
theorem land {κ κ' : Kind} {sp sp' : Space} {s : Shape} {e : EltTy} (v : View sig κ sp s e) (w : View sig κ' sp' s e)
    {f : w.ty.Contents (Elt F)} {g : v.ty.Contents (Elt F)} (h : w.read (Elt F) f = v.read (Elt F) g)
    (fd : v.ty.Contents (Elt F)) {x : v.ty.Idx} (hx : x ∈ v.set) :
    v.write (Elt F) fd (w.read (Elt F) f) Finset.univ x = g x := by
  rw [h, View.write_read_eq_piecewise]
  exact Finset.piecewise_eq_of_mem _ _ _ hx

/-- What the transfers to the partner read is what the partner's first receive buffer is to hold. -/
theorem read_sent_slot (c : Dev nD) (i : Fin 4) :
    (slotM xcM i).view.read (Elt F) (sent X c) = (slotM p1M i).view.read (Elt F) (gotP X (ptn c)) := by
  unfold gotP; rw [ptn_ptn]; rfl
theorem read_sent_pair (c : Dev nD) :
    (pairM xcM).view.read (Elt F) (sent X c) = (pairM p1M).view.read (Elt F) (gotP X (ptn c)) := by
  unfold gotP; rw [ptn_ptn]; rfl

/-- Slot `j` of the second receive buffer: slot `j` of the device before, or slot `j - 2` of the next. -/
theorem gotR_low (c : Dev nD) (j : Fin 4) (hj : j.val < 2) (z : S1x128x512.Idx) :
    gotR X c ((slotR j).emb z) = gotP X (prv c) ((slotR j).emb z) := by
  unfold gotR; exact dif_pos (by rw [slot_emb_zero]; exact hj)
theorem gotR_high (c : Dev nD) (j j' : Fin 4) (hj : j.val = j'.val + 2) (z : S1x128x512.Idx) :
    gotR X c ((slotR j).emb z) = gotP X (nxt c) ((slotR j').emb z) := by
  unfold gotR
  refine (dif_neg (by rw [slot_emb_zero]; omega)).trans (congrArg _ (funext fun a => Fin.ext ?_))
  match a with
  | ⟨0, _⟩ =>
    show ((slotR j).emb z 0).val - 2 = ((slotR j').emb z 0).val
    rw [slot_emb_zero, slot_emb_zero]; omega
  | ⟨1, _⟩ => rfl
  | ⟨2, _⟩ => rfl

/-- What the transfers round the ring read is what the neighbour's second receive buffer is to hold. -/
theorem read_got_next (c : Dev nD) (i : Fin 4) (hi : i.val < 2) :
    (slotM p1M i).view.read (Elt F) (gotP X c) = (slotM rrM i).view.read (Elt F) (gotR X (nxt c)) := by
  funext y
  have h := gotR_low X (nxt c) i hi (Shape.reshapeEquiv (squeezes_S1x128x512_S128x512.numel_eq) y)
  rw [prv_nxt] at h
  exact h.symm
theorem read_got_prev (c : Dev nD) (i j : Fin 4) (hj : j.val = i.val + 2) :
    (slotM p1M i).view.read (Elt F) (gotP X c) = (slotM rrM j).view.read (Elt F) (gotR X (prv c)) := by
  funext y
  have h := gotR_high X (prv c) j i hj (Shape.reshapeEquiv (squeezes_S1x128x512_S128x512.numel_eq) y)
  rw [nxt_prv] at h
  exact h.symm

/-! ## The result -/

/-- Chunks that start at the same row are the same rows. -/
theorem chunk_congr {c c' : Dev nD} {s s' : Fin 8} (h : (pos c + s.val) % 8 = (pos c' + s'.val) % 8) (y : S128x512.Idx) :
    (chunkR c s).emb y = (chunkR c' s').emb y := by
  funext a
  apply Fin.ext
  show k0_off1 c (BitVec.ofNat 32 s.val) a + 1 * (y a).val = k0_off1 c' (BitVec.ofNat 32 s'.val) a + 1 * (y a).val
  rw [off_eq, off_eq, h]

theorem pos_lt (c : Dev nD) : pos c < 8 := by revert c; decide +kernel
theorem pos_ptn (c : Dev nD) : pos (ptn c) = pos c := by revert c; decide +kernel
theorem pos_nxt (c : Dev nD) : pos (nxt c) = (pos c + 1) % 8 := by revert c; decide +kernel
theorem pos_prv (c : Dev nD) : pos (prv c) = (pos c + 7) % 8 := by revert c; decide +kernel

/-- The rows of chunk `s` are exactly those of chunk number `s`. -/
theorem mem_chunk (c : Dev nD) (s : Fin 8) (x : S1024x512.Idx) : x ∈ (chunkR c s).set ↔ chunkOf c x = s.val := by
  have h0 := (x 0).isLt
  change (x 0).val < 1024 at h0
  have hp := pos_lt c
  have hs := s.isLt
  rw [Rect.mem_set_unit, off_eq]
  unfold chunkOf
  constructor
  · intro h
    have h := h 0
    change 128 * ((pos c + s.val) % 8) ≤ (x 0).val ∧ (x 0).val < 128 * ((pos c + s.val) % 8) + 128 at h
    omega
  · intro h a
    match a with
    | ⟨0, _⟩ =>
      show 128 * ((pos c + s.val) % 8) ≤ (x 0).val ∧ (x 0).val < 128 * ((pos c + s.val) % 8) + 128
      omega
    | ⟨1, _⟩ => exact ⟨Nat.zero_le _, lt_of_lt_of_eq (x 1).isLt (Nat.zero_add _).symm⟩

/-- Adding a slot, widened, to a chunk. -/
theorem add_apply (v : FVec F S128x512 .f32) (w : FVec F S1x128x512 .bf16) (y : S128x512.Idx) :
    k0_pay5 v w y = addf v (extf .f32 (fun y : S128x512.Idx => w (Fin.cons ⟨0, Nat.one_pos⟩ y)) bitsLt_bf16_f32) y := by
  unfold k0_pay5
  rw [shapeCast_self, show shapeCast S128x512 w shapeCasts_S1x128x512_S128x512 = fun y : S128x512.Idx => w (Fin.cons ⟨0, Nat.one_pos⟩ y)
    from funext fun y => shapeCast_dropUnit_apply ![128, 512] w _ y]

/-- Chunk `s` of the result buffer overwritten with the staged chunk plus the slot `w`. -/
abbrev put (c : Dev nD) (s : Fin 8) (w : FVec F S1x128x512 .bf16) (f : FVec F S1024x512 .f32) : FVec F S1024x512 .f32 :=
  (oM.access (chunkR c s)).write (Elt F) f (k0_pay5 (xM.view.readAt (Elt F) (chunkR c s).toLoadRect (X c)) w) Finset.univ

/-- Storing chunk `s` plus a slot that holds the source device's same rows makes those rows the result's and leaves the
    other rows. -/
theorem store_result (c : Dev nD) (s : Fin 8) (w : FVec F S1x128x512 .bf16)
    (hw : ∀ y : S128x512.Idx, w (Fin.cons ⟨0, Nat.one_pos⟩ y) = narrow X (srcOf c s.val) ((chunkR c s).emb y))
    (f : FVec F S1024x512 .f32) (x : S1024x512.Idx) :
    put X c s w f x = if chunkOf c x = s.val then result X c x else f x := by
  by_cases h : chunkOf c x = s.val
  · rw [if_pos h]
    have hr : result X c x = addf (X c) (extf .f32 (narrow X (srcOf c s.val)) bitsLt_bf16_f32) x := by unfold result; rw [h]
    rw [hr]
    obtain ⟨y, rfl⟩ := rect_surj _ ((mem_chunk c s x).mpr h)
    refine (View.write_emb_of_mem (v := oM.access (chunkR c s)) (Val := Elt F) f _ (x := y) (Finset.mem_univ y)).trans ?_
    show k0_pay5 _ w y = _
    rw [add_apply, show (fun y : S128x512.Idx => w (Fin.cons ⟨0, Nat.one_pos⟩ y)) = _ from funext hw]
    rfl
  · rw [if_neg h]
    refine View.write_of_not_mem (v := oM.access (chunkR c s)) (Val := Elt F) f _ _ ?_
    rw [View.setOn_univ, show (oM.access (chunkR c s)).set = (chunkR c s).set from View.set_slice_whole _ _, mem_chunk]
    exact h

theorem slot_cons (i : Fin 4) (y : S128x512.Idx) : inSlot ((slotR i).emb (Fin.cons ⟨0, Nat.one_pos⟩ y)) = y := by
  rw [slot_emb_succ]; rfl

/-- The rows a slot of the first receive buffer holds are the partner's. -/
theorem gotP_rows (c : Dev nD) (i : Fin 4) (y : S128x512.Idx) :
    gotP X c ((slotR i).emb (Fin.cons ⟨0, Nat.one_pos⟩ y)) = narrow X (ptn c) ((chunkR c (slotChunk i)).emb y) := by
  unfold gotP sent
  rw [slot_cons, slot_emb_zero, chunk_congr (c' := c) (s' := slotChunk i) (by rw [pos_ptn])]

/-- The rows a slot of the second receive buffer holds are a neighbour's partner's, one chunk on or back. -/
theorem gotR_rows_low (c : Dev nD) (j : Fin 4) (hj : j.val < 2) (s : Fin 8) (hs : (slotChunk j).val = s.val + 1) (y : S128x512.Idx) :
    gotR X c ((slotR j).emb (Fin.cons ⟨0, Nat.one_pos⟩ y)) = narrow X (ptn (prv c)) ((chunkR c s).emb y) := by
  rw [gotR_low X c j hj, gotP_rows, chunk_congr (c' := c) (s' := s) (by rw [pos_prv, hs]; omega)]
theorem gotR_rows_high (c : Dev nD) (j j' : Fin 4) (hj : j.val = j'.val + 2) (s : Fin 8) (hs : (slotChunk j').val + 1 = s.val) (y : S128x512.Idx) :
    gotR X c ((slotR j).emb (Fin.cons ⟨0, Nat.one_pos⟩ y)) = narrow X (ptn (nxt c)) ((chunkR c s).emb y) := by
  rw [gotR_high X c j j' hj, gotP_rows, chunk_congr (c' := c) (s' := s) (by rw [pos_nxt]; omega)]

/-- Slot `i` of the two receive buffers, as loaded. -/
abbrev ldP (c : Dev nD) (i : Fin 4) : FVec F S1x128x512 .bf16 := p1M.view.readAt (Elt F) (slotR i).toLoadRect (gotP X c)
abbrev ldR (c : Dev nD) (i : Fin 4) : FVec F S1x128x512 .bf16 := rrM.view.readAt (Elt F) (slotR i).toLoadRect (gotR X c)

/-- The eight stores, in the order the kernel makes them, leave the result whatever the buffer held. -/
theorem stores_result (c : Dev nD) (f : FVec F S1024x512 .f32) :
    put X c 6 (ldR X c 3) (put X c 3 (ldR X c 2) (put X c 4 (ldR X c 1) (put X c 1 (ldR X c 0)
      (put X c 7 (ldP X c 3) (put X c 0 (ldP X c 2) (put X c 5 (ldP X c 1) (put X c 2 (ldP X c 0) f))))))) = result X c := by
  funext x
  have hlt : chunkOf c x < 8 := Nat.mod_lt _ (by decide)
  rw [store_result X c 6 _ (gotR_rows_high X c 3 1 rfl 6 rfl), store_result X c 3 _ (gotR_rows_high X c 2 0 rfl 3 rfl),
    store_result X c 4 _ (gotR_rows_low X c 1 (by decide) 4 rfl), store_result X c 1 _ (gotR_rows_low X c 0 (by decide) 1 rfl),
    store_result X c 7 _ (gotP_rows X c 3), store_result X c 0 _ (gotP_rows X c 2), store_result X c 5 _ (gotP_rows X c 1),
    store_result X c 2 _ (gotP_rows X c 0)]
  generalize chunkOf c x = n at hlt
  match n, hlt with
  | 0, _ | 1, _ | 2, _ | 3, _ | 4, _ | 5, _ | 6, _ | 7, _ => rfl
  | n + 8, h => exact absurd h (by omega)

end Cert.Exchange

end
-- ==== Proof.Schedule.lean ====
/-
# The protocol

Every semaphore of every device with the payments due on it. The barrier takes three units, one from each peer,
each handing over the part of the peer's receive buffers that this device's transfers fill; every transfer pays
its semaphore at the sender (giving the source back) and at the receiver (giving the filled slot). Then what a
device owes at each moment, the levels that order the waits, and the rule for each operation of the protocol.
-/
module

public import proofs.«01_k».proof.Proof.Contents

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (X : Dev nD → FVec F S1024x512 .f32)

/-! ## The cells -/

/-- The barrier of a device and its transfer semaphores. -/
abbrev barC (c : Dev nD) : GSem nD τ sig := ((c : Thread nD τ), .reg barS)
abbrev dC (q : DmaSem sig) (c : Dev nD) : GSem nD τ sig := ((c : Thread nD τ), .dma q)

/-- The semaphores transfers complete on: two of the sixteen stay unused. -/
abbrev Busy (q : DmaSem sig) : Prop := 2 ≤ q.val ∧ q.val ≠ 5 ∧ q.val ≠ 9

/-- The credit each semaphore takes: two slots on the ones of the two-slot transfer, one on the others. -/
def amtQ (q : DmaSem sig) : ℕ := if q.val = 4 ∨ q.val = 8 then N2 else N1
theorem amtQ_pos (q : DmaSem sig) : 0 < amtQ q := by unfold amtQ; split; exact N2_pos; exact N1_pos

theorem busy_s : ∀ t : Fin 7, Busy (sSem t) := by decide
theorem busy_r : ∀ t : Fin 7, Busy (rSem t) := by decide
theorem two_slots : ∀ t : Fin 7, ((sSem t).val = 4 ∨ (sSem t).val = 8 ↔ t = 2) ∧ ((rSem t).val = 4 ∨ (rSem t).val = 8 ↔ t = 2) := by decide
/-- A transfer's credit is the same at both ends: two slots for the third transfer, one for the others. -/
theorem amt_s (t : Fin 7) : amtQ (sSem t) = if t = 2 then N2 else N1 := by unfold amtQ; simp only [(two_slots t).1]
theorem amt_r (t : Fin 7) : amtQ (rSem t) = if t = 2 then N2 else N1 := by unfold amtQ; simp only [(two_slots t).2]
theorem amt_sr (t : Fin 7) : amtQ (sSem t) = amtQ (rSem t) := (amt_s t).trans (amt_r t).symm

/-! ## The payloads -/

/-- A part of the three buffers at what they are to hold. -/
def xcPts (c : Dev nD) (I : Finset S4x128x512.Idx) : sProp 𝕄 := ((c : Thread nD τ).loc cc0_scratch0) ↦[I]{fullShare} sent X c
def p1Pts (q : PosShare TreeShare) (c : Dev nD) (I : Finset S4x128x512.Idx) : sProp 𝕄 := ((c : Thread nD τ).loc cc0_scratch1) ↦[I]{q} gotP X c
def rrPts (c : Dev nD) (I : Finset S4x128x512.Idx) : sProp 𝕄 := ((c : Thread nD τ).loc cc0_scratch2) ↦[I]{fullShare} gotR X c

/-- A part of the two receive buffers at any contents. -/
def p1Any (c : Dev nD) (I : Finset S4x128x512.Idx) : sProp 𝕄 := iprop(∃ f, ((c : Thread nD τ).loc cc0_scratch1) ↦[I]{fullShare} f)
def rrAny (c : Dev nD) (I : Finset S4x128x512.Idx) : sProp 𝕄 := iprop(∃ f, ((c : Thread nD τ).loc cc0_scratch2) ↦[I]{fullShare} f)

/-- The two halves a receive buffer of the ring is handed over in. -/
abbrev lowS : Finset S4x128x512.Idx := Finset.univ \ pairR.set
abbrev highS : Finset S4x128x512.Idx := pairR.set

/-- What the signal of duty `d` hands to device `c`: of its sender, the part of the receive buffers `c` will fill. -/
def barPay (d : Fin 3) (c : Dev nD) : sProp 𝕄 :=
  match d with
  | 0 => p1Any ((sigE 0).symm c) Finset.univ
  | 1 => rrAny ((sigE 1).symm c) highS
  | 2 => rrAny ((sigE 2).symm c) lowS

/-- The three shares a forwarded slot is held at: one for each of the two transfers that read it, one to load it. -/
abbrev qN : PosShare TreeShare := fullShare.left
abbrev qP : PosShare TreeShare := fullShare.right.left
abbrev qL : PosShare TreeShare := fullShare.right.right

/-- What each transfer semaphore gives its device. -/
def dmaPay (q : DmaSem sig) (c : Dev nD) : sProp 𝕄 :=
  match q.val with
  | 2 => xcPts X c (slotR 0).set
  | 3 => xcPts X c (slotR 1).set
  | 4 => xcPts X c pairR.set
  | 6 => p1Pts X fullShare c (slotR 0).set
  | 7 => p1Pts X fullShare c (slotR 1).set
  | 8 => p1Pts X fullShare c pairR.set
  | 10 => p1Pts X qN c (slotR 0).set
  | 11 => p1Pts X qN c (slotR 1).set
  | 14 => p1Pts X qP c (slotR 0).set
  | 15 => p1Pts X qP c (slotR 1).set
  | 12 => rrPts X c (slotR 0).set
  | 13 => rrPts X c (slotR 1).set
  | 16 => rrPts X c (slotR 2).set
  | 17 => rrPts X c (slotR 3).set
  | _ => iprop(emp)

instance barPay_storable (d : Fin 3) (c : Dev nD) : BI.Storable (upEmb : UEmb _ 𝕄) (barPay (F := F) d c) := by
  unfold barPay p1Any rrAny; split <;> infer_instance
instance dmaPay_storable (q : DmaSem sig) (c : Dev nD) : BI.Storable (upEmb : UEmb _ 𝕄) (dmaPay X q c) := by
  unfold dmaPay xcPts p1Pts rrPts; split <;> infer_instance

/-! ## The schedule -/

/-- One round: three duties on a barrier, one on a transfer semaphore that is used. -/
def sched : Rounds.Schedule (GSem nD τ sig) (Fin 3) 𝕄 where
  duties g r := if r = 0 ∧ g.1.2 = .tc then
      (match g.2 with | .reg s => if s = barS then Finset.univ else ∅ | .dma q => if Busy q then {0} else ∅) else ∅
  unitless _ := False
  amount g _ _ := match g.2 with | .reg _ => 1 | .dma q => amtQ q
  payload g _ d := match g.2 with | .reg _ => barPay d g.1.1 | .dma q => dmaPay X q g.1.1
  amount_pos g _ _ _ := by split; exact Nat.one_pos; exact amtQ_pos _

instance sched_storable (g : GSem nD τ sig) (r : ℕ) (d : Fin 3) :
    BI.Storable (upEmb : UEmb _ 𝕄) ((sched X).payload g r d) := by
  show BI.Storable upEmb (match g.2 with | .reg _ => barPay d g.1.1 | .dma q => dmaPay X q g.1.1)
  split <;> infer_instance

theorem duties_bar (c : Dev nD) : (sched X).duties (barC c) 0 = Finset.univ := by
  show (if 0 = 0 ∧ (Proc.tc : Proc τ) = .tc then (if barS = barS then Finset.univ else ∅) else ∅) = _
  rw [if_pos ⟨rfl, rfl⟩, if_pos rfl]
theorem duties_dma (c : Dev nD) (q : DmaSem sig) (hq : Busy q) : (sched X).duties (dC q c) 0 = {0} := by
  show (if 0 = 0 ∧ (Proc.tc : Proc τ) = .tc then (if Busy q then ({0} : Finset (Fin 3)) else ∅) else ∅) = _
  rw [if_pos ⟨rfl, rfl⟩, if_pos hq]
theorem duties_idle (c : Dev nD) (q : DmaSem sig) (hq : ¬ Busy q) (r : ℕ) : (sched X).duties (dC q c) r = ∅ := by
  show (if r = 0 ∧ _ then (if Busy q then _ else _) else _) = _
  rw [if_neg hq, ite_self]
theorem duties_later (g : GSem nD τ sig) : ∀ r, 1 ≤ r → (sched X).duties g r = ∅ :=
  fun r hr => if_neg fun h => by omega

theorem expect_bar (c : Dev nD) : (sched X).expect (barC c) 0 = 3 := by
  unfold Schedule.expect Schedule.amountOf; rw [duties_bar]; exact Finset.sum_const_nat (m := 1) fun _ _ => rfl
theorem expect_dma (c : Dev nD) (q : DmaSem sig) (hq : Busy q) : (sched X).expect (dC q c) 0 = amtQ q := by
  unfold Schedule.expect Schedule.amountOf; rw [duties_dma X c q hq, Finset.sum_singleton]; rfl

theorem rest_bar (c : Dev nD) : bigSep ((sched X).duties (barC c) 0 \ ∅) (fun d => (sched X).payload (barC c) 0 d)
    = iprop(barPay 0 c ∗ barPay 1 c ∗ barPay 2 c) := by
  rw [Finset.sdiff_empty, duties_bar, bigSep_univ_eq_bigSepL [0, 1, 2] (by decide) (by decide)]
  rfl
theorem rest_dma (c : Dev nD) (q : DmaSem sig) (hq : Busy q) :
    bigSep ((sched X).duties (dC q c) 0 \ ∅) (fun d => (sched X).payload (dC q c) 0 d) = dmaPay X q c := by
  rw [Finset.sdiff_empty, duties_dma X c q hq, bigSep_singleton]; rfl

/-! ## What a device owes, and the levels -/

/-- Transfer `t` of device `c` owes its receiver the credit. -/
def owe (t : Fin 7) (c : Dev nD) : CellTallies nD τ sig Unit := tallyAt (dC (rSem t) (tgt t c)) () (amtQ (rSem t))
/-- Signal `d` of device `c` owes its receiver a unit. -/
def oweS (d : Fin 3) (c : Dev nD) : CellTallies nD τ sig Unit := tallyAt (barC (sigTo d c)) () 1

/-- What is owed with the last `n` transfers yet to issue. -/
def OTr (n : ℕ) (c : Dev nD) : CellTallies nD τ sig Unit :=
  match n with
  | 0 => 0
  | n + 1 => OTr n c + owe ⟨6 - n, by omega⟩ c

/-- What is owed at launch: every transfer, and the three signals. -/
def O₀ (c : Dev nD) : CellTallies nD τ sig Unit := OTr 7 c + oweS 2 c + oweS 1 c + oweS 0 c

def L (g : GSem nD τ sig) : Finset Unit := if g.1.2 = .tc then {()} else ∅
/-- Barrier below the partner's transfers below the ring's; all other semaphores below the barrier. -/
def lv (g : GSem nD τ sig) (_ : Unit) : ℕ :=
  match g.2 with
  | .reg _ => 1
  | .dma q => if q.val = 6 ∨ q.val = 7 ∨ q.val = 8 then 2 else if q.val = 12 ∨ q.val = 13 ∨ q.val = 16 ∨ q.val = 17 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_r (t : Fin 7) (c : Dev nD) : lv (dC (rSem t) c) () = if t.val < 3 then 2 else 3 := by
  match t with
  | 0 | 1 | 2 | 3 | 4 | 5 | 6 => rfl

theorem OTr_pos {n : ℕ} {c : Dev nD} {g : GSem nD τ sig} {u : Unit} (h : 0 < OTr n c g u) :
    ∃ t : Fin 7, 7 ≤ t.val + n ∧ g = dC (rSem t) (tgt t c) := by
  induction n with
  | zero => exact absurd h (lt_irrefl 0)
  | succ n ih =>
    unfold OTr owe at h
    rw [Pi.add_apply, Finsupp.add_apply, tallyAt_apply] at h
    split at h
    · next he => exact ⟨_, by show 7 ≤ 6 - n + (n + 1); omega, he.1⟩
    · obtain ⟨t, ht, e⟩ := ih h
      exact ⟨t, by omega, e⟩

/-- What is owed at launch is owed to a barrier or to a receive semaphore. -/
theorem O₀_pos {c : Dev nD} {g : GSem nD τ sig} {u : Unit} (h : 0 < O₀ c g u) :
    (∃ t : Fin 7, g = dC (rSem t) (tgt t c)) ∨ ∃ d, g = barC d := by
  unfold O₀ oweS at h
  simp only [Pi.add_apply, Finsupp.add_apply, tallyAt_apply] at h
  by_cases h2 : ∃ d, g = barC d
  · exact Or.inr h2
  · rw [if_neg fun e => h2 ⟨_, e.1⟩, if_neg fun e => h2 ⟨_, e.1⟩, if_neg fun e => h2 ⟨_, e.1⟩] at h
    simp only [Nat.add_zero] at h
    obtain ⟨t, -, e⟩ := OTr_pos h
    exact Or.inl ⟨t, e⟩

/-- A wait is allowed while all that is owed is owed to cells of higher level. -/
theorem mayWait (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by
      have := (h g u hg).1
      unfold L; rw [if_pos this]; exact Finset.mem_singleton_self _)
    (fun p hp => by rw [Finset.mem_singleton.mp hp])
    (fun g u hg => (h g u hg).2)

/-- While only the last `n` transfers are owed, a cell below them all may be waited on. -/
theorem mayWait_tr (c : Dev nD) (sm : SemLoc sig) (n : ℕ)
    (h : ∀ t : Fin 7, 7 ≤ t.val + n → lv ((c : Thread nD τ), sm) () < if t.val < 3 then 2 else 3) :
    (levAts L lv : sProp 𝕄) ⊢ MayWait (c : Thread nD τ) sm () (OTr n c) :=
  mayWait c sm _ fun g u hg => by
    obtain ⟨t, ht, rfl⟩ := OTr_pos hg
    exact ⟨rfl, by rw [lv_r]; exact h t ht⟩

/-- At launch the staging semaphores may be waited on. -/
theorem mayWait_start (c : Dev nD) (q : DmaSem sig) (hq : lv (dC q c) () = 0) :
    (levAts L lv : sProp 𝕄) ⊢ MayWait (c : Thread nD τ) (.dma q) () (O₀ c) :=
  mayWait c _ _ fun g u hg => by
    rcases O₀_pos hg with ⟨t, rfl⟩ | ⟨d, rfl⟩
    · exact ⟨rfl, by rw [hq, lv_r]; split <;> decide⟩
    · exact ⟨rfl, by rw [hq]; exact Nat.one_pos⟩

end Cert.Exchange

end
-- ==== Proof.Rules.lean ====
/-
# One rule per operation

The records every device holds of every cell, and the rule for each operation of the protocol: a signal, the
wait on the barrier, an addressed transfer, a wait on a transfer semaphore, the closing of a cell.
-/
module

public import proofs.«01_k».proof.Proof.Schedule

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → FVec F S1024x512 .f32)

abbrev 𝒱₀ : Variants := Variants.none

/-! ## The records -/

/-- The sixteen transfer semaphores, and with the barrier before them the seventeen cells of a device. -/
abbrev osem (k : Fin 16) : SemLoc sig := .dma ⟨k.val + 2, Nat.add_lt_add_right k.isLt 2⟩
abbrev csem (k : Fin 17) : SemLoc sig := Fin.cases (.reg barS) osem k
abbrev kcell (ck : Dev nD × Fin 17) : GSem nD τ sig := ((ck.1 : Thread nD τ), csem ck.2)

/-- The place of transfer semaphore `q` among the cells. -/
def kOf (q : DmaSem sig) : Fin 17 := ⟨q.val - 1, by have := q.isLt; change q.val < 18 at this; omega⟩
theorem csem_kOf : ∀ q : DmaSem sig, 2 ≤ q.val → csem (kOf q) = .dma q := by decide
theorem kcell_kOf (c : Dev nD) (q : DmaSem sig) (hq : 2 ≤ q.val) : kcell (c, kOf q) = dC q c :=
  congrArg (Prod.mk (c : Thread nD τ)) (csem_kOf q hq)

variable (K : Dev nD × Fin 17 → ℕ)

/-- Every cell's invariant, and that every cell has reached its first round. -/
def records : sProp 𝕄 :=
  iprop((bigSep Finset.univ fun ck : Dev nD × Fin 17 => cellInv ER (sched X) (K ck) (kcell ck))
    ∗ bigSep Finset.univ fun ck : Dev nD × Fin 17 => reached ER (kcell ck) 0)

instance records_persistent : BI.Persistent (records X K) := by unfold records; infer_instance

theorem inv_of (ck : Dev nD × Fin 17) :
    (bigSep Finset.univ fun ck : Dev nD × Fin 17 => (cellInv ER (sched X) (K ck) (kcell ck) : sProp 𝕄))
      ⊢ cellInv ER (sched X) (K ck) (kcell ck) := bigSep_elim (Finset.mem_univ ck)
theorem reached_of (ck : Dev nD × Fin 17) :
    (bigSep Finset.univ fun ck : Dev nD × Fin 17 => (reached ER (kcell ck) 0 : sProp 𝕄)) ⊢ reached ER (kcell ck) 0 :=
  bigSep_elim (Finset.mem_univ ck)
theorem cell_at (ck : Dev nD × Fin 17) :
    records X K ⊢ iprop(cellInv ER (sched X) (K ck) (kcell ck) ∗ reached ER (kcell ck) 0) := by
  unfold records
  iintro ⟨#HI, #HR⟩
  isplitr
  · iapply (inv_of X K ck); iexact HI
  · iapply (reached_of (F := F) ck); iexact HR
theorem bar_at (c : Dev nD) : records X K ⊢ iprop(cellInv ER (sched X) (K (c, 0)) (barC c) ∗ reached ER (barC c) 0) :=
  cell_at X K (c, 0)
theorem dma_at (c : Dev nD) (q : DmaSem sig) (hq : 2 ≤ q.val) :
    records X K ⊢ iprop(cellInv ER (sched X) (K (c, kOf q)) (dC q c) ∗ reached ER (dC q c) 0) := by
  have h := cell_at X K (c, kOf q)
  rw [kcell_kOf c q hq] at h
  exact h

/-- What a device owes, whatever it has waited for. -/
def owed (c : Dev nD) (O : CellTallies nD τ sig Unit) : sProp 𝕄 := iprop(∃ W, owes (c : Thread nD τ) O W)

variable {α : Type} {Q : α → sProp (MT nD τ sig Unit (Elt F) ℕ UU ℕ)} {k : PUnit → Prog (TpuEff nD τ sig (Elt F) Λ₀ .tc) α}

theorem payload_bar (d : Fin 3) (c : Dev nD) : barPay d c = (sched X).payload (barC c) 0 d := rfl
theorem payload_dma (q : DmaSem sig) (c : Dev nD) : dmaPay X q c = (sched X).payload (dC q c) 0 0 := rfl

/-! ## The barrier -/

/-- Signal `d` pays its unit, handing over what the duty asks. -/
theorem wp_sig (d : Fin 3) (c n : Dev nD) (hn : n = sigTo d c) (O : CellTallies nD τ sig Unit) :
    iprop(records X K ∗ owed c (O + oweS d c) ∗ dutyTok ER (barC (sigTo d c)) 0 d ∗ barPay d (sigTo d c))
      ⊢ iprop((owed c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (n, .tc) barS (1#32).toInt) k) Q) := by
  subst hn
  unfold owed
  iintro ⟨#HR, ⟨%W, HO⟩, Ht, Hp⟩ Hk
  ihave Hp := (Entails.of_eq (payload_bar X d (sigTo d c))) $$ Hp
  ihave Hb := (bar_at X K (sigTo d c)) $$ HR
  icases Hb with ⟨HI, Hr⟩
  iapply (Rounds.wp_signal 𝒱₀ ER (sched X) (c : Thread nD τ) none (dst := (sigTo d c : Thread nD τ)) (κ := K (sigTo d c, 0))
      (d := d) (by rw [duties_bar]; exact Finset.mem_univ _) (show (1 : ℕ) = _ by decide) () O rfl) $$ [HI HO Ht Hp Hr]
  · isplitl [HI]; · iexact HI
    isplitl [HO]; · iexact HO
    isplitl [Ht]; · iexact Ht
    isplitl [Hp]; · iexact Hp
    iexact Hr
  iintro HO
  iapply Hk
  iexists W; iexact HO

/-- The wait for three on a device's own barrier gives the three peers' receive buffers. -/
theorem wp_bar (c : Dev nD) (O : CellTallies nD τ sig Unit)
    (hm : (levAts L lv : sProp 𝕄) ⊢ MayWait (c : Thread nD τ) (.reg barS) () O) :
    iprop(records X K ∗ levAts L lv ∗ cred (tallyAt (barC c) () 3) ∗ owed c O ∗ atPos ER (barC c) 0 ∅ 0)
      ⊢ iprop(((owed c O ∗ atPos ER (barC c) 1 ∅ 0 ∗ barPay 0 c ∗ barPay 1 c ∗ barPay 2 c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  unfold owed
  iintro ⟨#HR, #Hl, Hc, ⟨%W, HO⟩, Ha⟩ Hk
  ihave Hb := (bar_at X K c) $$ HR
  icases Hb with ⟨HI, -⟩
  iapply (Rounds.wp_wait_rest_token 𝒱₀ ER (sched X) (c : Thread nD τ) none (κ := K (c, 0))
      (wpE_semWait_eq 𝒱₀ (c : Thread nD τ) none Set.univ) (Set.mem_univ _) () (O := O) (W := W) (R := 0) (m := 0) (T := ∅)
      (by rw [expect_bar]; decide)) $$ [HI Hc HO Ha]
  · isplitl [HI]; · iexact HI
    isplitl [Hc]; · iexact Hc
    isplitl [HO]; · iexact HO
    isplitr; · iapply hm; iexact Hl
    iexact Ha
  iintro ⟨HO, Ha, -, Hpay⟩
  ihave Hp := (Entails.of_eq (rest_bar X c)) $$ Hpay
  iapply Hk
  isplitl [HO]; · iexists _; iexact HO
  isplitl [Ha]; · iexact Ha
  iexact Hp

/-! ## Transfers -/

/-- Transfer `t`, from a source `c` holds to a destination it holds at its receiver: the source and what lands are
    what the two semaphores are to give. -/
theorem wp_send (t : Fin 7) (c n : Dev nD) (hn : n = tgt t c) {s : Shape} {src dst : Memref sig .tc .vmem s .bf16}
    {hsc : (dst : Memref sig (Dev.tc n : Thread nD τ).2.kind .vmem s .bf16).view.ref.isScScratch = false}
    {hsrc : src.view.WordExact} {hdst : dst.view.WordExact}
    {hsem : DmaTarget.Typed .vmem (.dma (rSem t)) (.remote (Dev.tc n : Thread nD τ) dst (.dma (sSem t)) hsc)}
    (hN : dst.view.dmaCredit = if t = 2 then N2 else N1) {q : PosShare TreeShare}
    {fs : Buf (Elt F) (src.view.loc (c : Thread nD τ))} {S D : sProp 𝕄} {O₁ : CellTallies nD τ sig Unit}
    (O : CellTallies nD τ sig Unit) (hO : O₁ = O + owe t c)
    (hs : S = (src.view.loc (c : Thread nD τ) ↦[src.view.set]{q} fs)) (hp₁ : S = dmaPay X (sSem t) c)
    (hd : D = iprop(∃ fd, dst.view.loc (tgt t c : Thread nD τ) ↦[dst.view.set]{fullShare} fd))
    (hp₂ : ∀ fd : Buf (Elt F) (dst.view.loc (tgt t c : Thread nD τ)),
      (dst.view.loc (tgt t c : Thread nD τ) ↦[dst.view.set]{fullShare} dst.view.write (Elt F) fd (src.view.read (Elt F) fs) Finset.univ)
        = dmaPay X (rSem t) (tgt t c)) :
    iprop(records X K ∗ S ∗ D ∗ owed c O₁
        ∗ dutyTok ER (dC (sSem t) c) 0 0 ∗ dutyTok ER (dC (rSem t) (tgt t c)) 0 0)
      ⊢ iprop(((cred (tallyAt (dC (sSem t) c) () (amtQ (sSem t))) ∗ owed c O) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma (sSem t)) hsc) (.dma (rSem t)) hsrc hdst hsem) k) Q) := by
  subst hn hd hO
  unfold owed
  iintro ⟨#HR, Hs, ⟨%fd, Hd⟩, ⟨%W, HO⟩, Ht₁, Ht₂⟩ Hk
  ihave H₁ := (dma_at X K c (sSem t) (busy_s t).1) $$ HR
  icases H₁ with ⟨HI₁, Hr₁⟩
  ihave H₂ := (dma_at X K (tgt t c) (rSem t) (busy_r t).1) $$ HR
  icases H₂ with ⟨HI₂, Hr₂⟩
  ihave Hs := (Entails.of_eq hs) $$ Hs
  iapply (Rounds.wp_send_pointsTo 𝒱₀ ER (sched X) (c : Thread nD τ) none (sem := .dma (rSem t)) (sS := .dma (sSem t)) (κ₁ := K (c, kOf (sSem t))) (κ₂ := K (tgt t c, kOf (rSem t)))
      (r₁ := 0) (r₂ := 0) (d₁ := 0) (d₂ := 0) (fd := fd)
      (by rw [duties_dma X c _ (busy_s t)]; exact Finset.mem_singleton_self _)
      (by rw [duties_dma X (tgt t c) _ (busy_r t)]; exact Finset.mem_singleton_self _)
      () () (amtQ (sSem t)) (hN.trans (amt_s t).symm) rfl (amt_sr t).symm O
      (congrArg (fun N => O + tallyAt (dC (rSem t) (tgt t c)) () N) (amt_sr t).symm) (W := W) (Entails.of_eq (hs.symm.trans (hp₁.trans (payload_dma X _ _)))) (Entails.of_eq ((hp₂ fd).trans (payload_dma X _ _)))) $$ [HI₁ HI₂ Hs Hd HO Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · iexact Hc
  iexists W; iexact HO

/-- The wait on transfer semaphore `q` gives its payload. -/
theorem wp_wait (c : Dev nD) (q : DmaSem sig) (hq : Busy q) (O : CellTallies nD τ sig Unit)
    (hm : (levAts L lv : sProp 𝕄) ⊢ MayWait (c : Thread nD τ) (.dma q) () O) {s : Shape} {src dst : Memref sig .tc .vmem s .bf16}
    {hsrc : src.view.WordExact} {hdst : dst.view.WordExact} (hN : dst.view.dmaCredit = amtQ q)
    {P : sProp 𝕄} (hP : dmaPay X q c = P) :
    iprop(records X K ∗ levAts L lv ∗ cred (tallyAt (dC q c) () (amtQ q)) ∗ owed c O ∗ atPos ER (dC q c) 0 ∅ 0)
      ⊢ iprop(((owed c O ∗ atPos ER (dC q c) 1 ∅ 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hP
  unfold owed
  rw [← hN]
  iintro ⟨#HR, #Hl, Hc, ⟨%W, HO⟩, Ha⟩ Hk
  ihave Hb := (dma_at X K c q hq.1) $$ HR
  icases Hb with ⟨HI, -⟩
  iapply (Rounds.wp_wait_rest_token 𝒱₀ ER (sched X) (c : Thread nD τ) none (κ := K (c, kOf q))
      (wpE_waitDma2_eq 𝒱₀ (c : Thread nD τ) none Set.univ) (Set.mem_univ _) () (O := O) (W := W) (R := 0) (m := 0) (T := ∅)
      (by rw [Nat.zero_add, expect_dma X c q hq, hN])) $$ [HI Hc HO Ha]
  · isplitl [HI]; · iexact HI
    isplitl [Hc]; · iexact Hc
    isplitl [HO]; · iexact HO
    isplitr; · iapply hm; iexact Hl
    iexact Ha
  iintro ⟨HO, Ha, -, Hpay⟩
  ihave Hp := (Entails.of_eq (rest_dma X c q hq)) $$ Hpay
  iapply Hk
  isplitl [HO]; · iexists _; iexact HO
  isplitl [Ha]; · iexact Ha
  iexact Hp

/-- The sixteen transfer semaphores' positions, one by one. -/
theorem sixteen (Φ : Fin 16 → sProp (MT nD τ sig Unit (Elt F) ℕ UU ℕ)) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  rfl
theorem seven (Φ : Fin 7 → sProp (MT nD τ sig Unit (Elt F) ℕ UU ℕ)) : bigSep Finset.univ Φ
    = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl
theorem three (Φ : Fin 3 → sProp (MT nD τ sig Unit (Elt F) ℕ UU ℕ)) : bigSep Finset.univ Φ = iprop(Φ 0 ∗ Φ 1 ∗ Φ 2) := by
  rw [bigSep_univ_eq_bigSepL [0, 1, 2] (by decide) (by decide)]
  rfl

/-! ## Closing the cells -/

/-- A cell past its last round closes with its counter at zero. -/
theorem close_bar (c : Dev nD) : iprop(records X K ∗ atPos ER (barC c) 1 ∅ 0) ⊢ |={Set.univ}=> semVal (barC c) 0 := by
  iintro ⟨#HR, Ha⟩
  ihave Hb := (bar_at X K c) $$ HR
  icases Hb with ⟨HI, -⟩
  iapply (Rounds.cell_close ER (sched X) (Set.mem_univ (K (c, 0))) (fun h => h) (R := 1) (duties_later X (barC c)))
  isplitl [HI] <;> iassumption
theorem close_dma (c : Dev nD) (q : DmaSem sig) (hq : 2 ≤ q.val) (r : ℕ) (hr : r = 1 ∨ ¬ Busy q) :
    iprop(records X K ∗ atPos ER (dC q c) r ∅ 0) ⊢ |={Set.univ}=> semVal (dC q c) 0 := by
  iintro ⟨#HR, Ha⟩
  ihave Hb := (dma_at X K c q hq) $$ HR
  icases Hb with ⟨HI, -⟩
  iapply (Rounds.cell_close ER (sched X) (Set.mem_univ (K (c, kOf q))) (fun h => h) (R := r) (by
    rcases hr with rfl | h
    · exact duties_later X (dC q c)
    · exact fun r' _ => duties_idle X c q h r'))
  isplitl [HI] <;> iassumption

end Cert.Exchange

end
-- ==== Proof.Steps.lean ====
/-
# The body's recurring steps

How the buffers split into slots and join again, what each transfer takes and leaves, and the two runs of loads and a
store the body repeats: filling a slot of the send buffer, and adding a received slot to a chunk of the result.
-/
module

public import proofs.«01_k».proof.Proof.Rules

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → FVec F S1024x512 .f32)

/-! ## Slots -/

theorem low_eq : lowS = (slotR 0).set ∪ (slotR 1).set := by
  ext x
  rw [Finset.mem_sdiff, Finset.mem_union, mem_slot, mem_slot, mem_pair]
  have h0 : (0 : Fin 4).val = 0 := rfl
  have h1 : (1 : Fin 4).val = 1 := rfl
  have := Finset.mem_univ x
  constructor
  · intro h; have := h.2; omega
  · exact fun h => ⟨Finset.mem_univ x, by omega⟩
theorem high_eq : highS = (slotR 2).set ∪ (slotR 3).set := by
  ext x
  have hx := (x 0).isLt
  change (x 0).val < 4 at hx
  rw [Finset.mem_union, mem_slot, mem_slot, mem_pair]
  have h2 : (2 : Fin 4).val = 2 := rfl
  have h3 : (3 : Fin 4).val = 3 := rfl
  omega
theorem slot_disjoint {i j : Fin 4} (h : i ≠ j) : Disjoint (slotR i).set (slotR j).set :=
  Finset.disjoint_left.mpr fun x hi hj => h (Fin.ext (((mem_slot i x).mp hi).symm.trans ((mem_slot j x).mp hj)))

/-- A buffer held whole is its two low slots and its last two. -/
theorem pts_all {ℓ : Loc nD τ sig} (f : Buf (Elt F) ℓ) (I J A : Finset (Idx ℓ)) (hd : Disjoint I J) (hu : A = I ∪ J) (q : PosShare TreeShare) :
    (ℓ ↦[A]{q} f : sProp 𝕄) ⊣⊢ iprop((ℓ ↦[I]{q} f) ∗ ℓ ↦[J]{q} f) := by
  subst hu; exact pointsTo_union hd

/-- The same for the parts held at any contents. -/
theorem p1Any_split (c : Dev nD) (I J A : Finset S4x128x512.Idx) (hd : Disjoint I J) (hu : A = I ∪ J) :
    p1Any (F := F) c A ⊢ iprop(p1Any c I ∗ p1Any c J) := by
  unfold p1Any
  iintro ⟨%f, H⟩
  ihave H' := (pts_all f I J A hd hu fullShare).1 $$ H
  icases H' with ⟨H1, H2⟩
  isplitl [H1]
  · iexists f; iexact H1
  · iexists f; iexact H2
theorem rrAny_split (c : Dev nD) (I J A : Finset S4x128x512.Idx) (hd : Disjoint I J) (hu : A = I ∪ J) :
    rrAny (F := F) c A ⊢ iprop(rrAny c I ∗ rrAny c J) := by
  unfold rrAny
  iintro ⟨%f, H⟩
  ihave H' := (pts_all f I J A hd hu fullShare).1 $$ H
  icases H' with ⟨H1, H2⟩
  isplitl [H1]
  · iexists f; iexact H1
  · iexists f; iexact H2

theorem all_eq : (Finset.univ : Finset S4x128x512.Idx) = lowS ∪ highS := (Finset.sdiff_union_of_subset (Finset.subset_univ _)).symm
theorem low_high : Disjoint lowS highS := Finset.sdiff_disjoint

/-- A part of the send buffer at any contents. -/
def xcAny (c : Dev nD) (I : Finset S4x128x512.Idx) : sProp 𝕄 := iprop(∃ f, ((c : Thread nD τ).loc cc0_scratch0) ↦[I]{fullShare} f)

theorem xcAny_split (c : Dev nD) (I J A : Finset S4x128x512.Idx) (hd : Disjoint I J) (hu : A = I ∪ J) :
    xcAny (F := F) c A ⊢ iprop(xcAny c I ∗ xcAny c J) := by
  unfold xcAny
  iintro ⟨%f, H⟩
  ihave H' := (pts_all f I J A hd hu fullShare).1 $$ H
  icases H' with ⟨H1, H2⟩
  isplitl [H1]
  · iexists f; iexact H1
  · iexists f; iexact H2

/-- A buffer at any contents splits into its four slots, or into two slots and the last two together. -/
theorem xcAny_four (c : Dev nD) : xcAny (F := F) c Finset.univ
    ⊢ iprop(xcAny c (slotR 0).set ∗ xcAny c (slotR 1).set ∗ xcAny c (slotR 2).set ∗ xcAny c (slotR 3).set) := by
  iintro H
  ihave H := (xcAny_split c _ _ _ low_high all_eq) $$ H
  icases H with ⟨Hl, Hh⟩
  ihave Hl := (xcAny_split c _ _ _ (slot_disjoint (by decide)) low_eq) $$ Hl
  ihave Hh := (xcAny_split c _ _ _ (slot_disjoint (by decide)) high_eq) $$ Hh
  icases Hl with ⟨H0, H1⟩
  icases Hh with ⟨H2, H3⟩
  isplitl [H0]; · iexact H0
  isplitl [H1]; · iexact H1
  isplitl [H2]; · iexact H2
  iexact H3
theorem p1Any_three (c : Dev nD) : p1Any (F := F) c Finset.univ
    ⊢ iprop(p1Any c (slotR 0).set ∗ p1Any c (slotR 1).set ∗ p1Any c pairR.set) := by
  iintro H
  ihave H := (p1Any_split c _ _ _ low_high all_eq) $$ H
  icases H with ⟨Hl, Hh⟩
  ihave Hl := (p1Any_split c _ _ _ (slot_disjoint (by decide)) low_eq) $$ Hl
  icases Hl with ⟨H0, H1⟩
  isplitl [H0]; · iexact H0
  isplitl [H1]; · iexact H1
  iexact Hh
theorem rrAny_low (c : Dev nD) : rrAny (F := F) c lowS ⊢ iprop(rrAny c (slotR 0).set ∗ rrAny c (slotR 1).set) :=
  rrAny_split c _ _ _ (slot_disjoint (by decide)) low_eq
theorem rrAny_high (c : Dev nD) : rrAny (F := F) c highS ⊢ iprop(rrAny c (slotR 2).set ∗ rrAny c (slotR 3).set) :=
  rrAny_split c _ _ _ (slot_disjoint (by decide)) high_eq

/-- The filled send buffer's last two slots, and each receive buffer's, are the two slots. -/
theorem xc_pair (c : Dev nD) : iprop(xcPts X c (slotR 2).set ∗ xcPts X c (slotR 3).set) ⊢ xcPts X c pairR.set :=
  (pts_all _ _ _ _ (slot_disjoint (by decide)) high_eq _).2
theorem p1_pair (q : PosShare TreeShare) (c : Dev nD) :
    p1Pts X q c pairR.set ⊣⊢ iprop(p1Pts X q c (slotR 2).set ∗ p1Pts X q c (slotR 3).set) :=
  pts_all _ _ _ _ (slot_disjoint (by decide)) high_eq _

/-- A slot held in full is the three shares of it. -/
theorem p1_shares (c : Dev nD) (I : Finset S4x128x512.Idx) :
    p1Pts X fullShare c I ⊣⊢ iprop(p1Pts X qN c I ∗ p1Pts X qP c I ∗ p1Pts X qL c I) := by
  unfold p1Pts
  exact ⟨(pointsTo_share (PosShare.mem_left_op_right fullShare)).1.trans
      (sep_mono_right (pointsTo_share (PosShare.mem_left_op_right fullShare.right)).1),
    (sep_mono_right (pointsTo_share (PosShare.mem_left_op_right fullShare.right)).2).trans
      (pointsTo_share (PosShare.mem_left_op_right fullShare)).2⟩

/-- The slots together are the buffers whole again. -/
theorem xc_join (c : Dev nD) : iprop(xcPts X c (slotR 0).set ∗ xcPts X c (slotR 1).set ∗ xcPts X c pairR.set) ⊢ xcPts X c Finset.univ := by
  iintro ⟨H0, H1, Hh⟩
  unfold xcPts
  iapply (pts_all _ _ _ _ low_high all_eq _).2
  isplitl [H0 H1]
  · iapply (pts_all _ _ _ _ (slot_disjoint (by decide)) low_eq _).2
    isplitl [H0] <;> iassumption
  · iexact Hh
theorem p1_join (c : Dev nD) : iprop(p1Pts X fullShare c (slotR 0).set ∗ p1Pts X fullShare c (slotR 1).set ∗ p1Pts X fullShare c pairR.set)
    ⊢ p1Pts X fullShare c Finset.univ := by
  iintro ⟨H0, H1, Hh⟩
  unfold p1Pts
  iapply (pts_all _ _ _ _ low_high all_eq _).2
  isplitl [H0 H1]
  · iapply (pts_all _ _ _ _ (slot_disjoint (by decide)) low_eq _).2
    isplitl [H0] <;> iassumption
  · iexact Hh
theorem rr_join (c : Dev nD) : iprop(rrPts X c (slotR 0).set ∗ rrPts X c (slotR 1).set ∗ rrPts X c (slotR 2).set ∗ rrPts X c (slotR 3).set)
    ⊢ rrPts X c Finset.univ := by
  iintro ⟨H0, H1, H2, H3⟩
  unfold rrPts
  iapply (pts_all _ _ _ _ low_high all_eq _).2
  isplitl [H0 H1]
  · iapply (pts_all _ _ _ _ (slot_disjoint (by decide)) low_eq _).2
    isplitl [H0] <;> iassumption
  · iapply (pts_all _ _ _ _ (slot_disjoint (by decide)) high_eq _).2
    isplitl [H2] <;> iassumption

/-! ## What a transfer takes and leaves -/

theorem set_xc (i : Fin 4) : (slotM xcM i).view.set = (slotR i).set := (View.set_reshape _ _).trans (View.set_slice_whole _ _)
theorem set_p1 (i : Fin 4) : (slotM p1M i).view.set = (slotR i).set := (View.set_reshape _ _).trans (View.set_slice_whole _ _)
theorem set_rr (i : Fin 4) : (slotM rrM i).view.set = (slotR i).set := (View.set_reshape _ _).trans (View.set_slice_whole _ _)
theorem set_xc2 : (pairM xcM).view.set = pairR.set := View.set_slice_whole _ _
theorem set_p12 : (pairM p1M).view.set = pairR.set := View.set_slice_whole _ _

theorem src_xc (c : Dev nD) (i : Fin 4) : xcPts X c (slotR i).set
    = ((slotM xcM i).view.loc (c : Thread nD τ) ↦[(slotM xcM i).view.set]{fullShare} sent X c) := by rw [set_xc]; rfl
theorem src_xc2 (c : Dev nD) : xcPts X c pairR.set
    = ((pairM xcM).view.loc (c : Thread nD τ) ↦[(pairM xcM).view.set]{fullShare} sent X c) := by rw [set_xc2]; rfl
theorem src_p1 (q : PosShare TreeShare) (c : Dev nD) (i : Fin 4) : p1Pts X q c (slotR i).set
    = ((slotM p1M i).view.loc (c : Thread nD τ) ↦[(slotM p1M i).view.set]{q} gotP X c) := by rw [set_p1]; rfl

theorem dst_p1 (c : Dev nD) (i : Fin 4) : p1Any (F := F) c (slotR i).set
    = iprop(∃ fd, (slotM p1M i).view.loc (c : Thread nD τ) ↦[(slotM p1M i).view.set]{fullShare} fd) := by rw [set_p1]; rfl
theorem dst_p12 (c : Dev nD) : p1Any (F := F) c pairR.set
    = iprop(∃ fd, (pairM p1M).view.loc (c : Thread nD τ) ↦[(pairM p1M).view.set]{fullShare} fd) := by rw [set_p12]; rfl
theorem dst_rr (c : Dev nD) (i : Fin 4) : rrAny (F := F) c (slotR i).set
    = iprop(∃ fd, (slotM rrM i).view.loc (c : Thread nD τ) ↦[(slotM rrM i).view.set]{fullShare} fd) := by rw [set_rr]; rfl

/-- The partner's slot arrives as the receiver is to hold it; so do the two together, and a slot passed on. -/
theorem land_p1 (c : Dev nD) (i : Fin 4) (fd : Buf (Elt F) ((slotM p1M i).view.loc (ptn c : Thread nD τ))) :
    ((slotM p1M i).view.loc (ptn c : Thread nD τ) ↦[(slotM p1M i).view.set]{fullShare}
        (slotM p1M i).view.write (Elt F) fd ((slotM xcM i).view.read (Elt F) (sent X c)) Finset.univ)
      = p1Pts X fullShare (ptn c) (slotR i).set := by
  refine (pointsTo_congr fun x hx => land (slotM p1M i).view (slotM xcM i).view (read_sent_slot X c i) fd hx).trans ?_
  rw [set_p1]; rfl
theorem land_p12 (c : Dev nD) (fd : Buf (Elt F) ((pairM p1M).view.loc (ptn c : Thread nD τ))) :
    ((pairM p1M).view.loc (ptn c : Thread nD τ) ↦[(pairM p1M).view.set]{fullShare}
        (pairM p1M).view.write (Elt F) fd ((pairM xcM).view.read (Elt F) (sent X c)) Finset.univ)
      = p1Pts X fullShare (ptn c) pairR.set := by
  refine (pointsTo_congr fun x hx => land (pairM p1M).view (pairM xcM).view (read_sent_pair X c) fd hx).trans ?_
  rw [set_p12]; rfl
theorem land_rr (c n : Dev nD) (i j : Fin 4) (h : (slotM p1M i).view.read (Elt F) (gotP X c) = (slotM rrM j).view.read (Elt F) (gotR X n))
    (fd : Buf (Elt F) ((slotM rrM j).view.loc (n : Thread nD τ))) :
    ((slotM rrM j).view.loc (n : Thread nD τ) ↦[(slotM rrM j).view.set]{fullShare}
        (slotM rrM j).view.write (Elt F) fd ((slotM p1M i).view.read (Elt F) (gotP X c)) Finset.univ)
      = rrPts X n (slotR j).set := by
  refine (pointsTo_congr fun x hx => land (slotM rrM j).view (slotM p1M i).view h fd hx).trans ?_
  rw [set_rr]; rfl

/-! ## The loads and stores -/

variable {α : Type} {Q : α → sProp (MT nD τ sig Unit (Elt F) ℕ UU ℕ)} {k : PUnit → Prog (TpuEff nD τ sig (Elt F) Λ₀ .tc) α}

/-- The staged block, held whole. -/
abbrev xPts (c : Dev nD) : sProp 𝕄 := ((c : Thread nD τ).loc cc0_stg0_0) ↦{fullShare} X c
/-- The staged result, held whole at `f`. -/
abbrev oPts (c : Dev nD) (f : FVec F S1024x512 .f32) : sProp 𝕄 := ((c : Thread nD τ).loc cc0_stg1_0) ↦{fullShare} f

/-- Loading a chunk of the block and storing it, rounded, in slot `i` fills that slot. -/
theorem wp_fill (c : Dev nD) (i : Fin 4) (s : Fin 8) (hs : slotChunk i = s) {h₁ h₂ h₃ h₄} :
    iprop(xPts X c ∗ xcAny c (slotR i).set)
      ⊢ iprop(((xPts X c ∗ xcPts X c (slotR i).set) -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (chunkR c s).toLoadRect h₁) fun v => .op (.load xcM (slotR i).toLoadRect h₂) fun _ =>
              .op (.store xcM (slotR i) (k0_pay1 v) Finset.univ h₃ h₄) k) Q) := by
  subst hs
  unfold xcAny xcPts
  have hI : (xcM.access (slotR i)).set ⊆ (slotR i).set := (View.set_slice_whole _ _).le
  have hJ : (xcM.access (slotR i)).setOn Finset.univ ⊆ (slotR i).set := (View.setOn_univ _).le.trans hI
  iintro ⟨Hx, ⟨%f, Hc⟩⟩ Hk
  iapply (wp_load 𝒱₀ (c : Thread nD τ) none Set.univ (m := xM) (Finset.subset_univ _)) $$ Hx; iintro Hx
  iapply (wp_load_rect 𝒱₀ (c : Thread nD τ) none Set.univ (m := xcM) (r := slotR i) hI) $$ Hc; iintro Hc
  iapply (wp_store 𝒱₀ (c : Thread nD τ) none Set.univ (m := xcM) (r := slotR i) (Mk := Finset.univ) hJ) $$ Hc; iintro Hc
  have e := pointsTo_congr (Ix := Unit) (Name := ℕ) (U := UU) (Lvl := ℕ) (ℓ := (c : Thread nD τ).loc cc0_scratch0) (q := fullShare) fun x hx => store_slot X c i f hx
  iapply Hk
  isplitl [Hx]; · iexact Hx
  iapply (Entails.of_eq e)
  iexact Hc

/-- Loading a chunk of the block and a slot of a receive buffer and storing their sum puts it in the result. -/
theorem wp_add (c : Dev nD) (b : Memref sig .tc .vmem S4x128x512 .bf16) (s : Fin 8) (i : Fin 4) {S : Finset (Idx ((b.access (slotR i)).loc (c : Thread nD τ)))}
    (hI : (b.access (slotR i)).set ⊆ S) {q : PosShare TreeShare} {g : Buf (Elt F) ((b.access (slotR i)).loc (c : Thread nD τ))}
    {f : FVec F S1024x512 .f32} {w : FVec F S1x128x512 .bf16} (hw : (b.access (slotR i)).read (Elt F) g = w)
    {P : sProp (MT nD τ sig Unit (Elt F) ℕ UU ℕ)} (hP : P = ((b.access (slotR i)).loc (c : Thread nD τ) ↦[S]{q} g)) {h₁ h₂ h₃ h₄ h₅} :
    iprop(xPts X c ∗ P ∗ oPts c f)
      ⊢ iprop(((xPts X c ∗ P ∗ oPts c (put X c s w f)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (chunkR c s).toLoadRect h₁) fun v => .op (.load b (slotR i).toLoadRect h₂) fun w =>
              .op (.load oM (chunkR c s).toLoadRect h₃) fun _ =>
              .op (.store oM (chunkR c s) (k0_pay5 v w) Finset.univ h₄ h₅) k) Q) := by
  subst hw hP
  iintro ⟨Hx, Hb, Ho⟩ Hk
  iapply (wp_load 𝒱₀ (c : Thread nD τ) none Set.univ (m := xM) (Finset.subset_univ _)) $$ Hx; iintro Hx
  iapply (wp_load_rect 𝒱₀ (c : Thread nD τ) none Set.univ (m := b) (r := slotR i) hI) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := chunkR c s) (Mk := Finset.univ) (Finset.subset_univ _)) $$ Ho; iintro Ho
  iapply Hk
  isplitl [Hx]; · iexact Hx
  isplitl [Hb]; · iexact Hb
  iexact Ho

/-- The two receive buffers' slots, as `wp_add` reads them. -/
theorem wp_add_p1 (q : PosShare TreeShare) (c : Dev nD) (s : Fin 8) (i : Fin 4) {f : FVec F S1024x512 .f32} {h₁ h₂ h₃ h₄ h₅} :
    iprop(xPts X c ∗ p1Pts X q c (slotR i).set ∗ oPts c f)
      ⊢ iprop(((xPts X c ∗ p1Pts X q c (slotR i).set ∗ oPts c (put X c s (ldP X c i) f)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (chunkR c s).toLoadRect h₁) fun v => .op (.load p1M (slotR i).toLoadRect h₂) fun w =>
              .op (.load oM (chunkR c s).toLoadRect h₃) fun _ =>
              .op (.store oM (chunkR c s) (k0_pay5 v w) Finset.univ h₄ h₅) k) Q) :=
  wp_add X c p1M s i (View.set_slice_whole _ _).le rfl rfl
theorem wp_add_rr (c : Dev nD) (s : Fin 8) (i : Fin 4) {f : FVec F S1024x512 .f32} {h₁ h₂ h₃ h₄ h₅} :
    iprop(xPts X c ∗ rrPts X c (slotR i).set ∗ oPts c f)
      ⊢ iprop(((xPts X c ∗ rrPts X c (slotR i).set ∗ oPts c (put X c s (ldR X c i) f)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (chunkR c s).toLoadRect h₁) fun v => .op (.load rrM (slotR i).toLoadRect h₂) fun w =>
              .op (.load oM (chunkR c s).toLoadRect h₃) fun _ =>
              .op (.store oM (chunkR c s) (k0_pay5 v w) Finset.univ h₄ h₅) k) Q) :=
  wp_add X c rrM s i (View.set_slice_whole _ _).le rfl rfl

end Cert.Exchange

end
-- ==== Proof.Body.lean ====
/-
# The body of the kernel

One device's run of the body, from the buffers, the tokens and the credits it starts with to its result in the staged
output, every buffer held whole again and every semaphore of its own back at zero.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → FVec F S1024x512 .f32)

variable (K : Dev nD × Fin 17 → ℕ)

/-- What each duty of a barrier hands over, at the device that pays it and at the device that waits. -/
theorem pay_ptn (c : Dev nD) : p1Any (F := F) c Finset.univ = barPay 0 (sigTo 0 c) := by
  show _ = p1Any ((sigE 0).symm (sigE 0 c)) Finset.univ
  rw [Equiv.symm_apply_apply]
theorem pay_nxt (c : Dev nD) : rrAny (F := F) c highS = barPay 1 (sigTo 1 c) := by
  show _ = rrAny ((sigE 1).symm (sigE 1 c)) highS
  rw [Equiv.symm_apply_apply]
theorem pay_prv (c : Dev nD) : rrAny (F := F) c lowS = barPay 2 (sigTo 2 c) := by
  show _ = rrAny ((sigE 2).symm (sigE 2 c)) lowS
  rw [Equiv.symm_apply_apply]
theorem got_ptn (c : Dev nD) : barPay (F := F) 0 c = p1Any (ptn c) Finset.univ := rfl
theorem got_prv (c : Dev nD) : barPay (F := F) 1 c = rrAny (prv c) highS := rfl
theorem got_nxt (c : Dev nD) : barPay (F := F) 2 c = rrAny (nxt c) lowS := rfl

/-- A buffer held at its contents is held at some contents. -/
theorem xc_any (c : Dev nD) : xcPts X c Finset.univ ⊢ xcAny c Finset.univ := by
  unfold xcPts xcAny; iintro H; iexists _; iexact H
theorem p1_any (c : Dev nD) : p1Pts X fullShare c Finset.univ ⊢ p1Any c Finset.univ := by
  unfold p1Pts p1Any; iintro H; iexists _; iexact H
theorem rr_any (c : Dev nD) : rrPts X c Finset.univ ⊢ rrAny c Finset.univ := by
  unfold rrPts rrAny; iintro H; iexists _; iexact H

/-- The position of each transfer semaphore's cell, the round being one once it has been waited on. -/
def rnd (k : Fin 16) : ℕ := if k = 3 ∨ k = 7 then 0 else 1
/-- A device's positions at its cells before the body and after it. -/
def posStart (c : Dev nD) : sProp 𝕄 :=
  iprop(atPos ER (barC c) 0 ∅ 0 ∗ bigSep Finset.univ fun k : Fin 16 => atPos ER ((c : Thread nD τ), osem k) 0 ∅ 0)
def posEnd (c : Dev nD) : sProp 𝕄 :=
  iprop(atPos ER (barC c) 1 ∅ 0 ∗ bigSep Finset.univ fun k : Fin 16 => atPos ER ((c : Thread nD τ), osem k) (rnd k) ∅ 0)

/-- The tokens of the duties a device pays: its three signals, and of each transfer the sender's and the receiver's. -/
def payToks (c : Dev nD) : sProp 𝕄 :=
  iprop((bigSep Finset.univ fun d : Fin 3 => dutyTok ER (barC (sigTo d c)) 0 d)
    ∗ (bigSep Finset.univ fun t : Fin 7 => dutyTok ER (dC (sSem t) c) 0 0)
    ∗ bigSep Finset.univ fun t : Fin 7 => dutyTok ER (dC (rSem t) (tgt t c)) 0 0)

/-- The credits a device waits with: its barrier's three units, and what each receive semaphore is to get. -/
def creds (c : Dev nD) : sProp 𝕄 :=
  iprop(cred (tallyAt (barC c) () 3) ∗ bigSep Finset.univ fun t : Fin 7 => cred (tallyAt (dC (rSem t) c) () (amtQ (rSem t))))

/-- The three buffers between the devices, at any contents. -/
def bufs (c : Dev nD) : sProp 𝕄 := iprop(xcAny c Finset.univ ∗ p1Any c Finset.univ ∗ rrAny c Finset.univ)

def bodyStart (c : Dev nD) (f : FVec F S1024x512 .f32) : sProp 𝕄 :=
  iprop(records X K ∗ levAts L lv ∗ posStart c ∗ payToks c ∗ creds c ∗ owed c (O₀ c) ∗ bufs c ∗ xPts X c ∗ oPts c f)
def bodyEnd (c : Dev nD) : sProp 𝕄 :=
  iprop(posEnd c ∗ owed c 0 ∗ bufs c ∗ xPts X c ∗ oPts c (result X c))

/-- The waits allowed: the barrier owing every transfer, a partner's slot owing the ring's, anything owing nothing. -/
theorem may_bar (c : Dev nD) : (levAts L lv : sProp 𝕄) ⊢ MayWait (c : Thread nD τ) (.reg barS) () (OTr 7 c) :=
  mayWait_tr c _ 7 fun t _ => by show 1 < _; split <;> decide
theorem may_first (c : Dev nD) : (levAts L lv : sProp 𝕄) ⊢ MayWait (c : Thread nD τ) (.dma (rSem 0)) () (OTr 4 c) :=
  mayWait_tr c _ 4 fun t ht => by rw [if_neg (by omega)]; exact (by decide : 2 < 3)
theorem may_second (c : Dev nD) : (levAts L lv : sProp 𝕄) ⊢ MayWait (c : Thread nD τ) (.dma (rSem 1)) () (OTr 2 c) :=
  mayWait_tr c _ 2 fun t ht => by rw [if_neg (by omega)]; exact (by decide : 2 < 3)
theorem may_rest (c : Dev nD) (q : DmaSem sig) : (levAts L lv : sProp 𝕄) ⊢ MayWait (c : Thread nD τ) (.dma q) () (OTr 0 c) :=
  mayWait_tr c _ 0 fun t ht => absurd t.isLt (by omega)

theorem pay5_pay6 : k0_pay6 (F := F) = k0_pay5 := rfl
theorem pay5_pay7 : k0_pay7 (F := F) = k0_pay5 := rfl
theorem pay5_pay8 : k0_pay8 (F := F) = k0_pay5 := rfl
theorem pay5_pay9 : k0_pay9 (F := F) = k0_pay5 := rfl
theorem pay5_pay10 : k0_pay10 (F := F) = k0_pay5 := rfl
theorem pay5_pay11 : k0_pay11 (F := F) = k0_pay5 := rfl
theorem pay5_pay12 : k0_pay12 (F := F) = k0_pay5 := rfl
theorem pay1_pay2 : k0_pay2 (F := F) = k0_pay1 := rfl
theorem pay1_pay3 : k0_pay3 (F := F) = k0_pay1 := rfl
theorem pay1_pay4 : k0_pay4 (F := F) = k0_pay1 := rfl

set_option maxHeartbeats 4000000 in
/-- The body runs from `bodyStart` to `bodyEnd`, after which cells may still be closed. -/
theorem run_body (c : Dev nD) (f : FVec F S1024x512 .f32) (Kt : PUnit → sProp (MT nD τ sig Unit (Elt F) ℕ UU ℕ)) :
    iprop(bodyStart X K c f ∗ (bodyEnd X c -∗ |={Set.univ}=> Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7
            cc0_scratch8) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
  simp only [semSignalWord, semWaitWord, Prog.lift, Prog.bind_op, Prog.bind_ret, Prog.pure_eq_ret, Prog.bind_assoc, wp_deviceId,
    pay1_pay2, pay1_pay3, pay1_pay4, pay5_pay6, pay5_pay7, pay5_pay8, pay5_pay9, pay5_pay10, pay5_pay11, pay5_pay12]
  unfold bodyStart posStart payToks creds bufs
  rw [three, seven, seven, seven, sixteen]
  iintro ⟨⟨#HR, #Hl, ⟨HaB, Ha0, Ha1, Ha2, Ha3, Ha4, Ha5, Ha6, Ha7, Ha8, Ha9, Ha10, Ha11, Ha12, Ha13, Ha14, Ha15⟩,
    ⟨⟨Ht0, Ht1, Ht2⟩, ⟨Hs0, Hs1, Hs2, Hs3, Hs4, Hs5, Hs6⟩, ⟨Hr0, Hr1, Hr2, Hr3, Hr4, Hr5, Hr6⟩⟩,
    ⟨HcB, Hc0, Hc1, Hc2, Hc3, Hc4, Hc5, Hc6⟩, HO, ⟨Hxc, Hp1, Hrr⟩, Hx, Hout⟩, Hk⟩
  -- the signals
  ihave Hrr := (rrAny_split c _ _ _ low_high all_eq) $$ Hrr
  icases Hrr with ⟨HrL, HrH⟩
  iapply (wp_sig X K 0 c _ (dev1_eq c) (OTr 7 c + oweS 2 c + oweS 1 c)) $$ [HO Ht0 Hp1]
  · isplitr; · iexact HR
    isplitl [HO]; · iexact HO
    isplitl [Ht0]; · iexact Ht0
    iapply (Entails.of_eq (pay_ptn c)); iexact Hp1
  iintro HO
  iapply (wp_sig X K 1 c _ (dev2_eq c) (OTr 7 c + oweS 2 c)) $$ [HO Ht1 HrH]
  · isplitr; · iexact HR
    isplitl [HO]; · iexact HO
    isplitl [Ht1]; · iexact Ht1
    iapply (Entails.of_eq (pay_nxt c)); iexact HrH
  iintro HO
  iapply (wp_sig X K 2 c _ (dev3_eq c) (OTr 7 c)) $$ [HO Ht2 HrL]
  · isplitr; · iexact HR
    isplitl [HO]; · iexact HO
    isplitl [Ht2]; · iexact Ht2
    iapply (Entails.of_eq (pay_prv c)); iexact HrL
  iintro HO
  iapply (wp_bar X K c (OTr 7 c) (may_bar c)) $$ [HcB HO HaB]
  · isplitr; · iexact HR
    isplitr; · iexact Hl
    isplitl [HcB]; · iexact HcB
    isplitl [HO] <;> iassumption
  iintro ⟨HO, HaB, Hp, HrH, HrL⟩
  ihave Hp := (Entails.of_eq (got_ptn c)) $$ Hp
  ihave HrH := (Entails.of_eq (got_prv c)) $$ HrH
  ihave HrL := (Entails.of_eq (got_nxt c)) $$ HrL
  ihave Hp := (p1Any_three (ptn c)) $$ Hp
  icases Hp with ⟨Hd0, Hd1, Hd2⟩
  ihave HrL := (rrAny_low (nxt c)) $$ HrL
  icases HrL with ⟨Hd3, Hd5⟩
  ihave HrH := (rrAny_high (prv c)) $$ HrH
  icases HrH with ⟨Hd4, Hd6⟩
  ihave Hxc := (xcAny_four c) $$ Hxc
  icases Hxc with ⟨Hx0, Hx1, Hx2, Hx3⟩
  -- the partner's half
  iapply (wp_fill X c 0 2 rfl) $$ [Hx Hx0]; · iframe
  iintro ⟨Hx, Hx0⟩
  iapply (wp_send X K 0 c _ (dev4_eq c) ((credit_p1 0).trans (if_neg (by decide)).symm) (O₁ := OTr 7 c) (OTr 6 c) rfl (src_xc X c 0) rfl (dst_p1 (ptn c) 0) (land_p1 X c 0)) $$ [Hx0 Hd0 HO Hs0 Hr0]
  · isplitr; · iexact HR
    iframe
  iintro ⟨Hb0, HO⟩
  iapply (wp_fill X c 1 5 rfl) $$ [Hx Hx1]; · iframe
  iintro ⟨Hx, Hx1⟩
  iapply (wp_send X K 1 c _ (dev5_eq c) ((credit_p1 1).trans (if_neg (by decide)).symm) (O₁ := OTr 6 c) (OTr 5 c) rfl (src_xc X c 1) rfl (dst_p1 (ptn c) 1) (land_p1 X c 1)) $$ [Hx1 Hd1 HO Hs1 Hr1]
  · isplitr; · iexact HR
    iframe
  iintro ⟨Hb1, HO⟩
  iapply (wp_fill X c 2 0 rfl) $$ [Hx Hx2]; · iframe
  iintro ⟨Hx, Hx2⟩
  iapply (wp_fill X c 3 7 rfl) $$ [Hx Hx3]; · iframe
  iintro ⟨Hx, Hx3⟩
  ihave Hx2 := (xc_pair X c) $$ [Hx2 Hx3]; · iframe
  iapply (wp_send X K 2 c _ (dev6_eq c) (if_pos rfl).symm (O₁ := OTr 5 c) (OTr 4 c) rfl (src_xc2 X c) rfl (dst_p12 (ptn c)) (land_p12 X c)) $$ [Hx2 Hd2 HO Hs2 Hr2]
  · isplitr; · iexact HR
    iframe
  iintro ⟨Hb2, HO⟩
  -- each of the partner's first two slots, passed on both ways and added
  iapply (wp_wait X K c (rSem 0) (busy_r 0) (OTr 4 c) (may_first c) ((credit_p1 0).trans ((amt_r 0).trans (if_neg (by decide))).symm) (P := p1Pts X fullShare c (slotR 0).set) rfl) $$ [Hc0 HO Ha4]
  · isplitr; · iexact HR
    isplitr; · iexact Hl
    isplitl [Hc0]; · iexact Hc0
    isplitl [HO]; · iexact HO
    iexact Ha4
  iintro ⟨HO, Ha4, Hp⟩
  ihave Hp := (p1_shares X c _).1 $$ Hp
  icases Hp with ⟨HpN, HpP, Hp0⟩
  iapply (wp_send X K 3 c _ (dev7_eq c) ((credit_rr 0).trans (if_neg (by decide)).symm) (O₁ := OTr 4 c) (OTr 3 c) rfl (src_p1 X qN c 0) rfl (dst_rr (nxt c) 0) (land_rr X c (nxt c) 0 0 (read_got_next X c 0 (by decide)))) $$ [HpN Hd3 HO Hs3 Hr3]
  · isplitr; · iexact HR
    iframe
  iintro ⟨Hb3, HO⟩
  iapply (wp_send X K 4 c _ (dev8_eq c) ((credit_rr 2).trans (if_neg (by decide)).symm) (O₁ := OTr 3 c) (OTr 2 c) rfl (src_p1 X qP c 0) rfl (dst_rr (prv c) 2) (land_rr X c (prv c) 0 2 (read_got_prev X c 0 2 rfl))) $$ [HpP Hd4 HO Hs4 Hr4]
  · isplitr; · iexact HR
    iframe
  iintro ⟨Hb4, HO⟩
  iapply (wp_add_p1 X qL c 2 0) $$ [Hx Hp0 Hout]; · iframe
  iintro ⟨Hx, Hp0, Hout⟩
  iapply (wp_wait X K c (rSem 1) (busy_r 1) (OTr 2 c) (may_second c) ((credit_p1 1).trans ((amt_r 1).trans (if_neg (by decide))).symm) (P := p1Pts X fullShare c (slotR 1).set) rfl) $$ [Hc1 HO Ha5]
  · isplitr; · iexact HR
    isplitr; · iexact Hl
    isplitl [Hc1]; · iexact Hc1
    isplitl [HO]; · iexact HO
    iexact Ha5
  iintro ⟨HO, Ha5, Hp⟩
  ihave Hp := (p1_shares X c _).1 $$ Hp
  icases Hp with ⟨HpN, HpP, Hp1⟩
  iapply (wp_send X K 5 c _ (dev9_eq c) ((credit_rr 1).trans (if_neg (by decide)).symm) (O₁ := OTr 2 c) (OTr 1 c) rfl (src_p1 X qN c 1) rfl (dst_rr (nxt c) 1) (land_rr X c (nxt c) 1 1 (read_got_next X c 1 (by decide)))) $$ [HpN Hd5 HO Hs5 Hr5]
  · isplitr; · iexact HR
    iframe
  iintro ⟨Hb5, HO⟩
  iapply (wp_send X K 6 c _ (dev10_eq c) ((credit_rr 3).trans (if_neg (by decide)).symm) (O₁ := OTr 1 c) (OTr 0 c) rfl (src_p1 X qP c 1) rfl (dst_rr (prv c) 3) (land_rr X c (prv c) 1 3 (read_got_prev X c 1 3 rfl))) $$ [HpP Hd6 HO Hs6 Hr6]
  · isplitr; · iexact HR
    iframe
  iintro ⟨Hb6, HO⟩
  iapply (wp_add_p1 X qL c 5 1) $$ [Hx Hp1 Hout]; · iframe
  iintro ⟨Hx, Hp1, Hout⟩
  iapply (wp_wait X K c (rSem 2) (busy_r 2) (OTr 0 c) (may_rest c _) ((rfl).trans ((amt_r 2).trans (if_pos rfl)).symm) (P := p1Pts X fullShare c pairR.set) rfl) $$ [Hc2 HO Ha6]
  · isplitr; · iexact HR
    isplitr; · iexact Hl
    isplitl [Hc2]; · iexact Hc2
    isplitl [HO]; · iexact HO
    iexact Ha6
  iintro ⟨HO, Ha6, Hp⟩
  ihave Hp := (p1_pair X fullShare c).1 $$ Hp
  icases Hp with ⟨Hp2, Hp3⟩
  iapply (wp_add_p1 X fullShare c 0 2) $$ [Hx Hp2 Hout]; · iframe
  iintro ⟨Hx, Hp2, Hout⟩
  iapply (wp_add_p1 X fullShare c 7 3) $$ [Hx Hp3 Hout]; · iframe
  iintro ⟨Hx, Hp3, Hout⟩
  -- the ring's four slots
  iapply (wp_wait X K c (rSem 3) (busy_r 3) (OTr 0 c) (may_rest c _) ((credit_rr 0).trans ((amt_r 3).trans (if_neg (by decide))).symm) (P := rrPts X c (slotR 0).set) rfl) $$ [Hc3 HO Ha10]
  · isplitr; · iexact HR
    isplitr; · iexact Hl
    isplitl [Hc3]; · iexact Hc3
    isplitl [HO]; · iexact HO
    iexact Ha10
  iintro ⟨HO, Ha10, Hq0⟩
  iapply (wp_add_rr X c 1 0) $$ [Hx Hq0 Hout]; · iframe
  iintro ⟨Hx, Hq0, Hout⟩
  iapply (wp_wait X K c (rSem 5) (busy_r 5) (OTr 0 c) (may_rest c _) ((credit_rr 1).trans ((amt_r 5).trans (if_neg (by decide))).symm) (P := rrPts X c (slotR 1).set) rfl) $$ [Hc5 HO Ha11]
  · isplitr; · iexact HR
    isplitr; · iexact Hl
    isplitl [Hc5]; · iexact Hc5
    isplitl [HO]; · iexact HO
    iexact Ha11
  iintro ⟨HO, Ha11, Hq1⟩
  iapply (wp_add_rr X c 4 1) $$ [Hx Hq1 Hout]; · iframe
  iintro ⟨Hx, Hq1, Hout⟩
  iapply (wp_wait X K c (rSem 4) (busy_r 4) (OTr 0 c) (may_rest c _) ((credit_rr 2).trans ((amt_r 4).trans (if_neg (by decide))).symm) (P := rrPts X c (slotR 2).set) rfl) $$ [Hc4 HO Ha14]
  · isplitr; · iexact HR
    isplitr; · iexact Hl
    isplitl [Hc4]; · iexact Hc4
    isplitl [HO]; · iexact HO
    iexact Ha14
  iintro ⟨HO, Ha14, Hq2⟩
  iapply (wp_add_rr X c 3 2) $$ [Hx Hq2 Hout]; · iframe
  iintro ⟨Hx, Hq2, Hout⟩
  iapply (wp_wait X K c (rSem 6) (busy_r 6) (OTr 0 c) (may_rest c _) ((credit_rr 3).trans ((amt_r 6).trans (if_neg (by decide))).symm) (P := rrPts X c (slotR 3).set) rfl) $$ [Hc6 HO Ha15]
  · isplitr; · iexact HR
    isplitr; · iexact Hl
    isplitl [Hc6]; · iexact Hc6
    isplitl [HO]; · iexact HO
    iexact Ha15
  iintro ⟨HO, Ha15, Hq3⟩
  iapply (wp_add_rr X c 6 3) $$ [Hx Hq3 Hout]; · iframe
  iintro ⟨Hx, Hq3, Hout⟩
  -- the senders' own waits
  iapply (wp_wait X K c (sSem 0) (busy_s 0) (OTr 0 c) (may_rest c _) ((credit_xc 0).trans ((amt_s 0).trans (if_neg (by decide))).symm) (P := xcPts X c (slotR 0).set) rfl) $$ [Hb0 HO Ha0]
  · isplitr; · iexact HR
    isplitr; · iexact Hl
    isplitl [Hb0]; · iexact Hb0
    isplitl [HO]; · iexact HO
    iexact Ha0
  iintro ⟨HO, Ha0, Hx0⟩
  iapply (wp_wait X K c (sSem 1) (busy_s 1) (OTr 0 c) (may_rest c _) ((credit_xc 1).trans ((amt_s 1).trans (if_neg (by decide))).symm) (P := xcPts X c (slotR 1).set) rfl) $$ [Hb1 HO Ha1]
  · isplitr; · iexact HR
    isplitr; · iexact Hl
    isplitl [Hb1]; · iexact Hb1
    isplitl [HO]; · iexact HO
    iexact Ha1
  iintro ⟨HO, Ha1, Hx1⟩
  iapply (wp_wait X K c (sSem 2) (busy_s 2) (OTr 0 c) (may_rest c _) ((credit_xc2).trans ((amt_s 2).trans (if_pos rfl)).symm) (P := xcPts X c pairR.set) rfl) $$ [Hb2 HO Ha2]
  · isplitr; · iexact HR
    isplitr; · iexact Hl
    isplitl [Hb2]; · iexact Hb2
    isplitl [HO]; · iexact HO
    iexact Ha2
  iintro ⟨HO, Ha2, Hx2⟩
  iapply (wp_wait X K c (sSem 3) (busy_s 3) (OTr 0 c) (may_rest c _) ((credit_p1 0).trans ((amt_s 3).trans (if_neg (by decide))).symm) (P := p1Pts X qN c (slotR 0).set) rfl) $$ [Hb3 HO Ha8]
  · isplitr; · iexact HR
    isplitr; · iexact Hl
    isplitl [Hb3]; · iexact Hb3
    isplitl [HO]; · iexact HO
    iexact Ha8
  iintro ⟨HO, Ha8, Hx3⟩
  iapply (wp_wait X K c (sSem 4) (busy_s 4) (OTr 0 c) (may_rest c _) ((credit_p1 0).trans ((amt_s 4).trans (if_neg (by decide))).symm) (P := p1Pts X qP c (slotR 0).set) rfl) $$ [Hb4 HO Ha12]
  · isplitr; · iexact HR
    isplitr; · iexact Hl
    isplitl [Hb4]; · iexact Hb4
    isplitl [HO]; · iexact HO
    iexact Ha12
  iintro ⟨HO, Ha12, Hx4⟩
  iapply (wp_wait X K c (sSem 5) (busy_s 5) (OTr 0 c) (may_rest c _) ((credit_p1 1).trans ((amt_s 5).trans (if_neg (by decide))).symm) (P := p1Pts X qN c (slotR 1).set) rfl) $$ [Hb5 HO Ha9]
  · isplitr; · iexact HR
    isplitr; · iexact Hl
    isplitl [Hb5]; · iexact Hb5
    isplitl [HO]; · iexact HO
    iexact Ha9
  iintro ⟨HO, Ha9, Hx5⟩
  iapply (wp_wait X K c (sSem 6) (busy_s 6) (OTr 0 c) (may_rest c _) ((credit_p1 1).trans ((amt_s 6).trans (if_neg (by decide))).symm) (P := p1Pts X qP c (slotR 1).set) rfl) $$ [Hb6 HO Ha13]
  · isplitr; · iexact HR
    isplitr; · iexact Hl
    isplitl [Hb6]; · iexact Hb6
    isplitl [HO]; · iexact HO
    iexact Ha13
  iintro ⟨HO, Ha13, Hx6⟩
  rw [wp_ret]
  iapply Hk
  unfold bodyEnd posEnd bufs
  rw [sixteen, ← stores_result X c f]
  isplitl [HaB Ha0 Ha1 Ha2 Ha3 Ha4 Ha5 Ha6 Ha7 Ha8 Ha9 Ha10 Ha11 Ha12 Ha13 Ha14 Ha15]
  · isplitl [HaB]; · iexact HaB
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    iexact Ha15
  isplitl [HO]; · iexact HO
  isplitr [Hx Hout]
  · isplitl [Hx0 Hx1 Hx2]
    · iapply ((xc_join X c).trans (xc_any X c)); iframe
    isplitr [Hq0 Hq1 Hq2 Hq3]
    · iapply ((p1_join X c).trans (p1_any X c))
      isplitl [Hx3 Hx4 Hp0]; · iapply (p1_shares X c _).2; iframe
      isplitl [Hx5 Hx6 Hp1]; · iapply (p1_shares X c _).2; iframe
      iapply (p1_pair X fullShare c).2; iframe
    · iapply ((rr_join X c).trans (rr_any X c)); iframe
  isplitl [Hx] <;> iassumption

end Cert.Exchange

end
-- ==== Proof.Fund.lean ====
/-
# Setting the protocol up

From the launch's semaphores at zero and the protocol's ghost element: every device's positions, the records of
all cells, and the tokens of the duties dealt to the devices that pay them; and, from what is owed at launch, the
credit of every device's own waits.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → FVec F S1024x512 .f32)

/-! ## Cells and tokens -/

/-- A conjunction over the seventeen cells of a device: the barrier's, and the sixteen others'. -/
theorem seventeen (Φ : Fin 17 → sProp (MT nD τ sig Unit (Elt F) ℕ UU ℕ)) :
    bigSep Finset.univ Φ = iprop(Φ 0 ∗ bigSep Finset.univ fun k : Fin 16 => Φ k.succ) := by
  rw [sixteen, bigSep_univ_eq_bigSepL [0, 1, 2, 3, 4, 5, 6, 7, 8, 9, 10, 11, 12, 13, 14, 15, 16] (by decide) (by decide)]
  rfl

theorem ownSemFacts : Pipeline.OwnSemFacts cfg0.spec osem := by decide

theorem csem_inj : Function.Injective csem := by
  have h : ∀ k k' : Fin 17, csem k = csem k' → k = k' := by decide
  exact fun k k' => h k k'
theorem kcell_inj : Function.Injective (kcell : Dev nD × Fin 17 → GSem nD τ sig) := by
  rintro ⟨c, k⟩ ⟨c', k'⟩ h
  exact Prod.ext (congrArg (fun g : GSem nD τ sig => g.1.1) h) (csem_inj (congrArg Prod.snd h))

/-- A device's cells' duties: three on its barrier, one on the semaphore of each transfer it sends and of each it receives. -/
abbrev Duty : Type := Fin 3 ⊕ (Fin 7 ⊕ Fin 7)
def dutyOf : Duty → SemLoc sig × Fin 3
  | .inl d => (.reg barS, d)
  | .inr (.inl t) => (.dma (sSem t), 0)
  | .inr (.inr t) => (.dma (rSem t), 0)
theorem dutyOf_inj : Function.Injective dutyOf := by
  have h : ∀ j j' : Duty, dutyOf j = dutyOf j' → j = j' := by decide
  exact fun j j' => h j j'
def tokOf (cj : Dev nD × Duty) : GSem nD τ sig × ℕ × Fin 3 := (((cj.1 : Thread nD τ), (dutyOf cj.2).1), 0, (dutyOf cj.2).2)
theorem tokOf_inj : Function.Injective tokOf := by
  rintro ⟨c, j⟩ ⟨c', j'⟩ h
  exact Prod.ext (congrArg (fun x : GSem nD τ sig × ℕ × Fin 3 => x.1.1.1) h)
    (dutyOf_inj (congrArg (fun x : GSem nD τ sig × ℕ × Fin 3 => (x.1.2, x.2.2)) h))

def allCells : Finset (GSem nD τ sig) := Finset.univ.map ⟨kcell, kcell_inj⟩
def allToks : Finset (GSem nD τ sig × ℕ × Fin 3) := Finset.univ.map ⟨tokOf, tokOf_inj⟩
/-- The launch element: the pipeline's and the protocol's. -/
def u₀ : UU := (initOf (Pipeline.cells cfgs cellOf_inj) (Pipeline.launchToks cfgs cellOf_inj), initOf allCells allToks)

/-- The tokens of a device's own cells' duties. -/
def ownToks (c : Dev nD) : sProp 𝕄 :=
  iprop((bigSep Finset.univ fun d : Fin 3 => dutyTok ER (barC c) 0 d)
    ∗ (bigSep Finset.univ fun t : Fin 7 => dutyTok ER (dC (sSem t) c) 0 0)
    ∗ bigSep Finset.univ fun t : Fin 7 => dutyTok ER (dC (rSem t) c) 0 0)

/-- A device's part of the launch element: its cells' states, its positions there, its cells' tokens. -/
def dealt (c : Dev nD) : sProp 𝕄 :=
  iprop((bigSep Finset.univ fun k : Fin 17 => roundState ER (sched X) (kcell (c, k)) 0)
    ∗ (bigSep Finset.univ fun k : Fin 17 => iprop(atPos ER (kcell (c, k)) 0 ∅ 0 ∗ reached ER (kcell (c, k)) 0)) ∗ ownToks c)

/-- What a device enters the protocol with. -/
def ready (c : Dev nD) : sProp 𝕄 := iprop(∃ K, records X K ∗ posStart c ∗ payToks c)

/-- The launch element funds every device's part. -/
theorem fund_all : BI.own (ER (initOf allCells allToks)) ⊢ (|==> bigSep Finset.univ (dealt X) : sProp 𝕄) := by
  have hX (Φ : GSem nD τ sig → sProp (MT nD τ sig Unit (Elt F) ℕ UU ℕ)) :
      bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by
      unfold ownToks; rw [bigSep_univ_sum, bigSep_univ_sum]; rfl
  iintro H
  imod (Rounds.fund ER (sched X) allCells allToks) $$ H with ⟨Hs, Hr, Ha, Ht⟩
  imodintro
  ihave Hs := (Entails.of_eq (hX fun g => roundState ER (sched X) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold dealt; simp only [bigSep_sep']
  isplitl [Hs]; · iexact Hs
  isplitl [Ha Hr]
  · isplitl [Ha] <;> iassumption
  iexact Ht

/-! ## The counters at zero -/

/-- The launch's counters of a device are its sixteen transfer semaphores' -/
theorem ownSems0_eq (c : Dev nD) : (Pipeline.ownSems0 (Ix := Unit) (Name := ℕ) (U := UU) (Lvl := ℕ) (Val := Elt F) (τ := τ) osem c : sProp 𝕄)
    = bigSep Finset.univ fun k : Fin 16 => semVal ((c : Thread nD τ), osem k) 0 := by
  rw [sixteen, Pipeline.ownSems0_eq_of_list c osem [0, 1, 2, 3, 4, 5, 6, 7, 8, 9, 10, 11, 12, 13, 14, 15] (by decide) (by decide)]; rfl
/-- and its barrier's. -/
theorem unscopedSems0_eq (c : Dev nD) : (unscopedSems0 c : sProp 𝕄) = semVal (barC c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, seventeen]
  iintro ⟨HS, HB⟩
  isplitl [HB]; · iexact HB
  iexact HS

/-- A device's counters and cell states become its cells' invariants. -/
theorem core_alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ ownToks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- A family of tokens per device, each kind moved by its own permutation of the devices. -/
theorem deal {I : Type} [Fintype I] (e : I → Dev nD ≃ Dev nD) (Φ : I → Dev nD → sProp (MT nD τ sig Unit (Elt F) ℕ UU ℕ)) :
    (bigSep Finset.univ fun c : Dev nD => bigSep Finset.univ fun i => Φ i c)
      = bigSep Finset.univ fun c : Dev nD => bigSep Finset.univ fun i => Φ i (e i c) := by
  rw [bigSep_univ_comm, bigSep_univ_comm (fun c i => Φ i (e i c))]
  exact bigSep_congr fun i _ => bigSep_univ_equiv (e i) (Φ i)

/-- The tokens of every device's own duties are those of the duties every device pays. -/
theorem deal_toks : (bigSep Finset.univ fun c : Dev nD => (ownToks c : sProp 𝕄)) = bigSep Finset.univ fun c : Dev nD => payToks c := by
  unfold ownToks payToks
  rw [bigSep_sep', bigSep_sep', bigSep_sep', bigSep_sep', deal sigE (fun d c => (dutyTok ER (barC c) 0 d : sProp 𝕄)),
    deal tgtE (fun t c => (dutyTok ER (dC (rSem t) c) 0 0 : sProp 𝕄))]

theorem with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions at its seventeen cells. -/
theorem positions : (bigSep Finset.univ fun c : Dev nD => bigSep Finset.univ fun k : Fin 17 => (atPos ER (kcell (c, k)) 0 ∅ 0 : sProp 𝕄))
    = bigSep Finset.univ fun c : Dev nD => posStart c :=
  bigSep_congr fun c _ => by unfold posStart; rw [seventeen]; rfl

/-- The invariants' names gathered, every device is ready. -/
theorem regroup :
    (bigSep Finset.univ fun c : Dev nD => iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ ownToks c) : sProp 𝕄)
      ⊢ bigSep Finset.univ (ready X) := by
  rw [bigSep_sep', bigSep_sep', deal_toks, ← bigSep_univ_prod (fun ck : Dev nD × Fin 17 => iprop(∃ κ : ℕ, cellInv ER (sched X) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (sched X) κ (kcell ck) : sProp 𝕄))) $$ HI
  icases HK with ⟨%K, #HI⟩
  iapply (with_persistent (R := records X K) (Φ := fun c => iprop(posStart c ∗ payToks c)) (fun c _ => (show _ ⊢ ready X c from by
    unfold ready; iintro H; iexists K; iexact H)))
  isplitr
  · unfold records; isplitl; · iexact HI
    iexact HR
  · iapply (Entails.of_eq (bigSep_sep' Finset.univ (fun c : Dev nD => (posStart c : sProp 𝕄)) payToks).symm)
    isplitl [Hat]
    · iapply (Entails.of_eq (positions (F := F))) $$ Hat
    · iexact Htok

/-- From every device's counters and its part of the launch element, every device is ready. -/
theorem all_ready : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (ready X) :=
  ((bigSep_mono fun c _ => core_alloc X c).trans (bigSep_fupd _ _)).trans (BI.fupd_mono (regroup X))

/-! ## The credit of the waits -/

/-- What all devices owe for signal `d` or for transfer `t` is, at its receiver, the credit of that part of its wait. -/
theorem credit_sig (d : Fin 3) (c : Dev nD) : (Pipeline.launchCred (oweS d) c : sProp 𝕄) ⊢ cred (tallyAt (barC c) () 1) :=
  Pipeline.launchCred_tallyAt (.reg barS) (sigE d) (sigE d).symm (sigE d).apply_symm_apply (sigE d).symm_apply_apply () 1 c
theorem credit_tr (t : Fin 7) (c : Dev nD) : (Pipeline.launchCred (owe t) c : sProp 𝕄) ⊢ cred (tallyAt (dC (rSem t) c) () (amtQ (rSem t))) :=
  Pipeline.launchCred_tallyAt (.dma (rSem t)) (tgtE t) (tgtE t).symm (tgtE t).apply_symm_apply (tgtE t).symm_apply_apply () _ c

/-- Three units of a barrier's credit. -/
theorem three_units (c : Dev nD) : iprop(cred (tallyAt (barC c) () 1) ∗ cred (tallyAt (barC c) () 1) ∗ cred (tallyAt (barC c) () 1))
    ⊢ (cred (tallyAt (barC c) () 3) : sProp 𝕄) := by
  rw [show (tallyAt (barC c) () 3 : CellTallies nD τ sig Unit) = tallyAt (barC c) () 1 + (tallyAt (barC c) () 1 + tallyAt (barC c) () 1) from by
    rw [tallyAt_add, tallyAt_add]]
  exact (sep_mono_right (cred_add _ _).2).trans (cred_add _ _).2

theorem O₀_eq : O₀ = fun c => OTr 7 c + oweS 2 c + oweS 1 c + oweS 0 c := rfl
theorem OTr_succ (n : ℕ) : OTr (n + 1) = fun c => OTr n c + owe ⟨6 - n, by omega⟩ c := rfl

/-- What is owed at launch gives every device the credit of its own waits. -/
theorem launch_creds (c : Dev nD) : (Pipeline.launchCred O₀ c : sProp 𝕄) ⊢ creds c := by
  unfold creds
  rw [O₀_eq, Pipeline.launchCred_add, Pipeline.launchCred_add, Pipeline.launchCred_add, seven]
  simp only [OTr_succ, Pipeline.launchCred_add]
  iintro ⟨⟨⟨⟨⟨⟨⟨⟨⟨⟨-, H6⟩, H5⟩, H4⟩, H3⟩, H2⟩, H1⟩, H0⟩, B2⟩, B1⟩, B0⟩
  isplitl [B0 B1 B2]
  · iapply (three_units (F := F) c)
    isplitl [B0]; · iapply (credit_sig (F := F) 0 c) $$ B0
    isplitl [B1]; · iapply (credit_sig (F := F) 1 c) $$ B1
    iapply (credit_sig (F := F) 2 c) $$ B2
  isplitl [H0]; · iapply (credit_tr (F := F) 0 c); iexact H0
  isplitl [H1]; · iapply (credit_tr (F := F) 1 c); iexact H1
  isplitl [H2]; · iapply (credit_tr (F := F) 2 c); iexact H2
  isplitl [H3]; · iapply (credit_tr (F := F) 3 c); iexact H3
  isplitl [H4]; · iapply (credit_tr (F := F) 4 c); iexact H4
  isplitl [H5]; · iapply (credit_tr (F := F) 5 c); iexact H5
  iapply (credit_tr (F := F) 6 c); iexact H6

end Cert.Exchange

end
-- ==== Proof.Launch.lean ====
/-
# The run

The pipeline's proof data, the body's obligation from the body's rule, and the whole program's run on sixteen
devices: from any memory with zero counters, each device's argument is unchanged, its result array holds `result`
of the arguments, and every counter is zero.
-/
module

public import proofs.«01_k».proof.Proof.Fund
public import proofs.«01_k».proof.Proof.Gen.KernelIdeal.Frame
public import Idealize.ShloMosaic.Lib.Pipeline.ValueKit
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- A device's argument. -/
def inp (c : Dev nD) : FVec F S1024x512 .f32 := m ((c : Thread nD τ).loc main_arg0)

/-- What a device's body starts from: the protocol's state, its waits' credit, the levels, the buffers between the devices. -/
def before₀ (c : Dev nD) : sProp 𝕄 := iprop(ready (inp m) c ∗ creds c ∗ levAts L lv)
/-- What it ends with: the buffers, and every counter at zero. -/
def after₀ (c : Dev nD) : sProp 𝕄 :=
  iprop(bufs c ∗ (bigSep Finset.univ fun k : Fin 16 => semVal ((c : Thread nD τ), osem k) 0) ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inp m c
    | ⟨1, _⟩ => result (inp m) c
  Φ t := match t with
    | ⟨0, _⟩ => iprop(before₀ m c ∗ bufs c)
    | ⟨_ + 1, _⟩ => after₀ c
  q _ := fullShare
  owed t := match t with
    | ⟨0, _⟩ => O₀ c
    | ⟨_ + 1, _⟩ => 0

/-- The block the pipeline reads of an argument is the whole of it, -/
theorem read_arg (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f
/-- so the staged block of the argument is the argument. -/
theorem staged (c : Dev nD) (d) : (dats m ρ 0 c).before (0 : Fin 2) t0_0 d = inp m c := by
  unfold Dat.before
  rw [if_pos (fetch0_0 t0_0)]
  exact Eq.trans (by rfl) (read_arg c (inp m c))

theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- What the pipeline's account of a device's debts says. -/
theorem owesAt_eq (c : Dev nD) (t : Fin (cfg0.N + 1)) : (dats m ρ 0 c).owesAt () t = owed c ((dats m ρ 0 c).owed t) := by
  unfold Dat.owesAt Pipeline.owesWithin owed
  refine Entails.antisymm (show _ ⊢ (_ : sProp 𝕄) from ?_) (show _ ⊢ (_ : sProp 𝕄) from ?_)
  · iintro ⟨%W, -, H⟩
    iexists W; iexact H
  · iintro ⟨%W, H⟩
    iexists W
    isplitr; · ipureintro; exact fun _ _ => Or.inl trivial
    iexact H

/-! ## The body's obligation -/

theorem rnd_idle : ∀ k : Fin 16, rnd k = 1 ∨ ¬ Busy ⟨k.val + 2, Nat.add_lt_add_right k.isLt 2⟩ := by decide

/-- After the body a device's cells close, their counters at zero. -/
theorem close_all (X : Dev nD → FVec F S1024x512 .f32) (K : Dev nD × Fin 17 → ℕ) (c : Dev nD) : iprop(records X K ∗ posEnd c)
    ⊢ |={Set.univ}=> iprop((bigSep Finset.univ fun k : Fin 16 => semVal ((c : Thread nD τ), osem k) 0) ∗ semVal (barC c) 0) := by
  unfold posEnd
  iintro ⟨#HR, Hb, Hd⟩
  imod (close_bar X K c) $$ [Hb] with Hb
  · isplitr; · iexact HR
    iexact Hb
  imod ((with_persistent (R := records X K) (fun k _ => close_dma X K c ⟨k.val + 2, Nat.add_lt_add_right k.isLt 2⟩ (Nat.le_add_left _ _) (rnd k) (rnd_idle k))).trans
    (bigSep_fupd Finset.univ fun k : Fin 16 => semVal ((c : Thread nD τ), osem k) 0)) $$ [Hd] with Hd
  · isplitr; · iexact HR
    iexact Hd
  imodintro
  isplitl [Hd] <;> iassumption

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def obStart (c : Dev nD) : sProp 𝕄 :=
  iprop((before₀ m c ∗ bufs c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def obEnd (c : Dev nD) : sProp 𝕄 :=
  iprop(after₀ c ∗ (dats m ρ 0 c).owesAt () t0_0.succ ∗ stg c cc0_stg0_0 (inp m c) ∗ stg c cc0_stg1_0 (result (inp m) c))

set_option maxRecDepth 4000 in
/-- The body does what the pipeline asks of it. -/
theorem body_obligation (c : Dev nD) : BodyObligation (dats m ρ 0 c) (defs₀ (F := F)) 𝒱₀ () Set.univ := fun t => by
  rw [fin_N0 t]
  rw [show ∀ Φ : Fin cfg0.W → sProp (MT nD τ sig Unit (Elt F) ℕ UU ℕ), bigSep Finset.univ Φ = iprop(Φ (0 : Fin 2) ∗ Φ (1 : Fin 2)) from fun Φ => bigSep_W0 Φ,
    show ∀ Φ : Fin cfg0.W → sProp (MT nD τ sig Unit (Elt F) ℕ UU ℕ), bigSep Finset.univ Φ = iprop(Φ (0 : Fin 2) ∗ Φ (1 : Fin 2)) from fun Φ => bigSep_W0 Φ]
  simp only [owns_whole_eq]
  show obStart m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 cc0_scratch7 cc0_scratch8)
    (fun _ => obEnd m ρ c)
  unfold obStart before₀ ready
  rw [owesAt_eq]
  iintro ⟨⟨⟨⟨%K, #HR, Hp, Ht⟩, Hc, Hl⟩, Hb⟩, Ho, ⟨%d, %g, %hg, Hx⟩, ⟨%d', %g', -, Hy⟩⟩
  have hx : g = inp m c := hg.trans (staged m ρ c d)
  subst hx
  iapply (run_body (inp m) K c g' fun _ => obEnd m ρ c)
  unfold bodyStart
  isplitl
  · isplitr; · iexact HR
    isplitl [Hl]; · iexact Hl
    isplitl [Hp]; · iexact Hp
    isplitl [Ht]; · iexact Ht
    isplitl [Hc]; · iexact Hc
    isplitl [Ho]; · iexact Ho
    isplitl [Hb]; · iexact Hb
    isplitl [Hx]; · iexact Hx
    iexact Hy
  · unfold bodyEnd obEnd after₀
    rw [owesAt_eq]
    iintro ⟨Hp, Ho, Hb, Hx, Hy⟩
    imod (close_all (inp m) K c) $$ [Hp] with ⟨Hd, Hz⟩
    · isplitr; · iexact HR
      iexact Hp
    imodintro
    isplitl [Hb Hd Hz]
    · isplitl [Hb]; · iexact Hb
      isplitl [Hd] <;> iassumption
    isplitl [Ho]; · iexact Ho
    isplitl [Hx]
    · iexists _; isplitr; · (ipureintro; rfl)
      iexact Hx
    iexists _; isplitr; · (ipureintro; rfl)
    iexact Hy

/-! ## The launch -/

theorem share_eq (c : Dev nD) (w : Fin cfg0.W) : (dats m ρ 0 c).share w = fullShare := by unfold Dat.share; split <;> rfl

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (inp m) c)
      ⊢ |={Set.univ}=> iprop(before₀ m c ∗ emp) := by
  unfold before₀
  iintro ⟨-, Hl, Hc, -, HG⟩
  ihave Hc := (launch_creds (F := F) c) $$ Hc
  imodintro
  isplitl
  · isplitl [HG]; · iexact HG
    isplitl [Hc] <;> iassumption
  · iempintro

theorem bufs_eq (c : Dev nD) : (Pipeline.scopedRest cfg0.spec c : sProp 𝕄) = bufs c := by
  rw [scopedRest0_eq]; rfl

theorem phi_in (c : Dev nD) :
    iprop(before₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(before₀ m c ∗ bufs c) from rfl, bufs_eq]
  iintro ⟨Hs, -, Hb⟩
  isplitl [Hs] <;> iassumption

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, bufs_eq, ownSems0_eq, unscopedSems0_eq]
  unfold after₀
  iintro ⟨Hb, Hd, Hz⟩
  isplitl [Hz]; · iexact Hz
  isplitl [Hd] <;> iassumption

/-- The staging semaphores are below everything. -/
theorem stage_low (c : Dev nD) (q : DmaSem sig) (h : q.val < 2) : lv (dC q c) () = 0 := by
  show (if _ then 2 else if _ then 3 else 0) = 0
  rw [if_neg (by omega), if_neg (by omega)]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_start c _ (stage_low c _ (by fin_cases w <;> fin_cases s <;> decide))
    · exact may_rest c _

/-- What a final state holds: every window's array at what the pipeline leaves there. -/
def Post : PUnit × MemSt nD τ sig (Elt F) → Prop := fun r =>
  ∀ (c : Dev nD) (w : Fin cfg0.W), r.2.mem ((cfg0.win w).arr.view.loc (c : Thread nD τ)) = (dats m ρ 0 c).arrAt w cfg0.N

set_option maxRecDepth 8000 in
/-- Every fair execution ends, with the arrays so and every counter at zero. -/
theorem run_region : θ_run defs (onTc (τ := τ) (main (F := F))) (s₀ m ρ) (fun r => Post m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (inp m)) (G' := ready (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := all_ready (inp m))
    (hA := fun _ _ => rfl) (hpf := fun _ k => k.elim0)
    (X := before₀ m) (Y := fun c => unscopedSems0 c) (Z := fun _ => iprop(emp))
    (hX := enter m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as launched, -/
theorem final_arg (c : Dev nD) : (dats m ρ 0 c).arrAt (0 : Fin 2) cfg0.N = m ((c : Thread nD τ).loc main_arg0) :=
  (dats m ρ 0 c).arrAt_in (0 : Fin 2) rfl _
/-- and the result's holds the body's result. -/
theorem final_res (c : Dev nD) : (dats m ρ 0 c).arrAt (1 : Fin 2) cfg0.N = result (inp m) c :=
  (dats m ρ 0 c).arrAt_eq_of_after_last (1 : Fin 2) t0_0 (by decide +kernel) (result (inp m) c) (fun j => rfl)

/-- The run, read at the argument and the result. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_v1) = result (inp m) c) ∧ r.2.sem = fun _ => 0) :=
  (θ_run defs _ _).mono (fun _ h => ⟨fun c => ⟨(h.1 c 0).trans (final_arg m ρ c), (h.1 c 1).trans (final_res m ρ c)⟩, h.2⟩) (run_region m ρ)

end Cert.Exchange

end
-- ==== Proof.Value.lean ====
/-
# The value

Over the extended reals every device's result is the sum of the two halves of the whole array, which is what the
reference computes.
-/
module

public import proofs.«01_k».proof.Proof.Launch
public import proofs.«01_k».proof.Proof.Gen.ReferenceIdeal.Run
public import Idealize.ShloMosaic.Lib.IdealHost
public import Idealize.ShloMosaic.Lib.Layout
public import Idealize.ShloMosaic.Lib.Pointwise.Reduce
public import Idealize.ShloMosaic.PureOps.Ideal.Laws

@[expose] public section

noncomputable section

namespace Cert.Exchange

open Idealize.ShloMosaic Idealize.ShloMosaic.TcCoe Idealize.SL.Sem
open Cert.KernelIdeal (nD S1024x512)

/-- The whole array, cut in two along the rows. -/
abbrev S2048x512 : Shape := ⟨2, ![2048, 512]⟩

set_option backward.proofsInPublic true in
/-- Index `i` of half `k`, in the whole array. -/
def rowOf (k : Fin 2) (i : S1024x512.Idx) : S2048x512.Idx := fun a => match a with
  | ⟨0, _⟩ => ⟨1024 * k.val + (i 0).val, by have h : (i 0).val < 1024 := (i 0).isLt; have := k.isLt; show _ < 2048; omega⟩
  | ⟨1, _⟩ => i 1

/-- The sum of the two halves. -/
def halves (w : FVec Ideal S2048x512 .f32) : FVec Ideal S1024x512 .f32 := fun i => w (rowOf 0 i) + w (rowOf 1 i)

/-! ## The kernel -/

set_option backward.proofsInPublic true in
/-- The half a device holds: its coordinate along the first axis of the mesh. -/
def half (c : Dev nD) : Fin 2 := ⟨c.val / 8, by have : c.val < 16 := c.isLt; omega⟩

/-- A chunk of a device comes from a device that holds the other half. -/
theorem half_src : ∀ (c : Dev nD) (s : Fin 8), half (srcOf c s.val) = 1 - half c := by decide +kernel
theorem half_from (c : Dev nD) (i : S1024x512.Idx) : half (srcOf c (chunkOf c i)) = 1 - half c :=
  half_src c ⟨chunkOf c i, Nat.mod_lt _ (by decide)⟩

theorem mesh_half : ∀ c : Dev nD, Layout.meshLin [2, 2, 4] c.val [0] = (half c).val := by decide +kernel

/-- A device's block of the whole array is its half. -/
theorem block_half (c : Dev nD) (w : FVec Ideal S2048x512 .f32) (i : S1024x512.Idx) :
    Layout.blockN ⟨2, ![1024, 512]⟩ ⟨2, ![2048, 512]⟩ (Layout.meshBlock [2, 2, 4] ![[0], []] c) w (by decide) i = w (rowOf (half c) i) := by
  rw [Layout.blockN_apply]
  refine congrArg w (funext fun a => Fin.ext ?_)
  rw [Layout.TilesN.idx_val]
  match a with
  | ⟨0, _⟩ =>
    show Layout.meshLin [2, 2, 4] c.val [0] * 1024 + (i 0).val = 1024 * (half c).val + (i 0).val
    rw [mesh_half, Nat.mul_comm]
  | ⟨1, _⟩ => show 0 * 512 + (i 1).val = (i 1).val; omega

/-- On every device the result is the sum of the halves. -/
theorem result_halves (X : Dev nD → FVec Ideal S1024x512 .f32) (w : FVec Ideal S2048x512 .f32)
    (hX : ∀ c i, X c i = w (rowOf (half c) i)) (c : Dev nD) : result X c = halves w := by
  funext i
  show X c i + X (srcOf c (chunkOf c i)) i = w (rowOf 0 i) + w (rowOf 1 i)
  rw [hX, hX, half_from]
  have h : ∀ k : Fin 2, k = 0 ∨ k = 1 := by decide
  rcases h (half c) with h | h
  · rw [h]; rfl
  · rw [h]; exact add_comm _ _

/-! ## The reference -/

/-- The reshape reads row `j` of half `k` of the whole array. -/
theorem reshape_row (w : FVec Ideal S2048x512 .f32) (h : S2048x512.ShapeCasts ⟨3, ![2, 1024, 512]⟩)
    (z : (⟨3, ![2, 1024, 512]⟩ : Shape).Idx) (k : Fin 2) (i : S1024x512.Idx) (h0 : (z 0).val = k.val) (h1 : (z 1).val = (i 0).val)
    (h2 : (z 2).val = (i 1).val) : shapeCast ⟨3, ![2, 1024, 512]⟩ w h z = w (rowOf k i) := by
  refine shapeCast_apply w h z (rowOf k i) ?_
  rw [Shape.rowMajor_val_two, Shape.rowMajor_val_three]
  show (1024 * k.val + (i 0).val) * 512 + (i 1).val = ((z 0).val * 1024 + (z 1).val) * 512 + (z 2).val
  rw [h0, h1, h2]
  omega

open Cert.ReferenceIdeal Cert.ReferenceIdeal.Gen in
/-- The reference's sum is the sum of the halves. -/
theorem reference_halves (w : FVec Ideal S2048x512 .f32) :
    Host.reduceAdd (shapeCast Cert.ReferenceIdeal.S2x1024x512 w Facts₀.shapeCasts_S2048x512_S2x1024x512)
      (constant S_ .f32 0x00000000#32) Facts₀.reducesTo_S2x1024x512_S1024x512_d0 Facts₀.h_S_ = halves w := by
  funext i
  rw [ValueIdx.hostReduceAdd_apply, Ideal.hostReduceAdd_r3_a0, Fin.sum_univ_two,
    reshape_row w _ _ 0 i rfl rfl rfl, reshape_row w _ _ 1 i rfl rfl rfl]
  show Ideal.ofBits .f32 0x00000000#32 + _ = _
  rw [Ideal.ofBits_zero_f32, zero_add]
  rfl

end Cert.Exchange

end
-- ==== Proof.lean ====
/-
# The claims

The kernel computes, on every device, the sum of the two halves of the whole array; it and the reference end with
their argument unchanged and every counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

noncomputable section

namespace Cert.Proof

open Idealize.ShloMosaic Idealize.SL.Sem

/-- The two texts of the kernel have one body for their one region, so their tables of bodies agree. -/
theorem same_bodies : Cert.Kernel.defs₀ (F := Bits) = Cert.KernelIdeal.defs₀ (F := Bits) := by
  refine congrArg Defs.onTc (funext fun ℓ => ?_)
  match ℓ with
  | 0 => exact funext fun ⟨_, _⟩ => rfl

/-- So do the tables with the region around that body. -/
theorem same_table : Cert.Kernel.defs (F := Bits) = Cert.KernelIdeal.defs (F := Bits) :=
  congrArg (Pipeline.defs Cert.KernelIdeal.pcfgs) same_bodies

/-- The kernel on words of bits: it ends, its argument unchanged, every counter at zero. -/
theorem frame_kernel : Cert.quiescent_Kernel := fun m ρ _ => by
  rw [same_table]
  exact (θ_run Cert.KernelIdeal.defs _ _).mono (fun _ h => ⟨fun c => (h.1 c).1, h.2⟩) (Cert.Exchange.run_main (F := Bits) m ρ)

/-- The kernel over the extended reals: the same. -/
theorem frame_ideal : Cert.quiescent_KernelIdeal := fun m ρ _ =>
  (θ_run Cert.KernelIdeal.defs _ _).mono (fun _ h => ⟨fun c => (h.1 c).1, h.2⟩) (Cert.Exchange.run_main (F := Ideal) m ρ)

/-- The reference: it ends with its argument unchanged, and it has no counter. -/
theorem frame_reference : Cert.quiescent_ReferenceIdeal := fun m ρ _ =>
  (θ_run Cert.ReferenceIdeal.defs _ _).mono
    (fun _ h => ⟨fun c => (h c).2, funext fun g => by rcases g with ⟨_, s | s⟩ <;> exact s.elim0⟩)
    (Cert.ReferenceIdeal.Value.run (F := Ideal) m ρ)

/-- From a whole array cut in two along the first axis of the mesh, every device of the kernel ends holding what the
    reference ends holding, and both keep their arguments. -/
theorem value : Cert.algebraic_KernelIdeal_ReferenceIdeal := fun m ρ m' ρ' _ hm => by
  refine ⟨Cert.Exchange.halves (m' ((0 : Dev Cert.ReferenceIdeal.nD).tc.loc Cert.ReferenceIdeal.main_arg0)), ?_, ?_⟩
  · refine (θ_run Cert.KernelIdeal.defs _ _).mono (fun _ h c => ⟨((h.1 c).2).trans ?_, (h.1 c).1⟩)
      (Cert.Exchange.run_main (F := Ideal) m ρ)
    exact Cert.Exchange.result_halves _ _ (fun d i => (congrFun (hm d) i).trans (Cert.Exchange.block_half d _ i)) c
  · exact (θ_run Cert.ReferenceIdeal.defs _ _).mono
      (fun _ h => ⟨((h 0).1).trans (Cert.Exchange.reference_halves _), (h 0).2⟩) (Cert.ReferenceIdeal.Value.run (F := Ideal) m' ρ')

theorem claim : Cert.Claim :=
  ⟨Cert.Kernel.Gen.facts, Cert.KernelIdeal.Gen.facts, Cert.ReferenceIdeal.Gen.facts,
    frame_kernel, frame_ideal, frame_reference, trivial, value⟩

end Cert.Proof

end
